-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_projection [hPre_finite_projection : Cert.Pre_finite_projection.Facts] (m : (ℓ : Loc Cert.KernelIdeal.nD Cert.KernelIdeal.τ Cert.KernelIdeal.sig) → Buf (Elt Ideal) ℓ) : Prop :=
  ∀ c : Dev Cert.KernelIdeal.nD,
    (Cert.Pre_finite_projection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_projection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_projection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_projection [hPre_finite_projection : Cert.Pre_finite_projection.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_projection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_projection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_projection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_projection [hKernelIdeal : Cert.KernelIdeal.Facts] [hPre_finite_projection : Cert.Pre_finite_projection.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_projection m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_projection [hReferenceIdeal : Cert.ReferenceIdeal.Facts] [hPre_finite_projection : Cert.Pre_finite_projection.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_projection m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_projection [hKernelIdeal : Cert.KernelIdeal.Facts] [hReferenceIdeal : Cert.ReferenceIdeal.Facts] [hPre_finite_projection : Cert.Pre_finite_projection.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_projection m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_projection : Cert.Pre_finite_projection.Facts),
    quiescent_Kernel (hKernel := hKernel)
    ∧ quiescent_KernelIdeal (hKernelIdeal := hKernelIdeal)
    ∧ quiescent_KernelIdeal_pre_finite_projection (hKernelIdeal := hKernelIdeal) (hPre_finite_projection := hPre_finite_projection)
    ∧ quiescent_ReferenceIdeal (hReferenceIdeal := hReferenceIdeal)
    ∧ quiescent_ReferenceIdeal_pre_finite_projection (hReferenceIdeal := hReferenceIdeal) (hPre_finite_projection := hPre_finite_projection)
    ∧ preserves_Kernel_KernelIdeal
    ∧ algebraic_KernelIdeal_ReferenceIdeal_pre_finite_projection (hKernelIdeal := hKernelIdeal) (hReferenceIdeal := hReferenceIdeal) (hPre_finite_projection := hPre_finite_projection)
-- ==== Pre_finite_projection.lean ====
abbrev S2x8192x1024 : Shape := ⟨3, ![2, 8192, 1024]⟩
abbrev S1024x1024 : Shape := ⟨2, ![1024, 1024]⟩
abbrev S1024 : Shape := ⟨1, ![1024]⟩
abbrev S4x16x64x32 : Shape := ⟨4, ![4, 16, 64, 32]⟩
abbrev S_ : Shape := ⟨0, ![]⟩

class Facts : Prop where
  bcast_S_S2x8192x1024 : S_.BroadcastsInDim S2x8192x1024 (![] : Fin 0 → Fin S2x8192x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S2x8192x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S4x16x64x32 .f32) : IVec S2x8192x1024 1 × IVec S1024x1024 1 × IVec S1024 1 :=
  let main_cst : FVec F S_ .f32 := constant S_ .f32 0xFF800000#32
  let main_v0 : FVec F S2x8192x1024 .f32 := broadcastInDim S2x8192x1024 ![] bcast_S_S2x8192x1024 main_cst
  let main_v1 : IVec S2x8192x1024 1 := cmpf .ogt main_arg0 main_v0
  let main_cst_0 : FVec F S_ .f32 := constant S_ .f32 0x7F800000#32
  let main_v2 : FVec F S2x8192x1024 .f32 := broadcastInDim S2x8192x1024 ![] bcast_S_S2x8192x1024 main_cst_0
  let main_v3 : IVec S2x8192x1024 1 := cmpf .olt main_arg0 main_v2
  let main_v4 : IVec S2x8192x1024 1 := andi main_v1 main_v3
  let main_cst_1 : FVec F S_ .f32 := constant S_ .f32 0xFF800000#32
  let main_v5 : FVec F S1024x1024 .f32 := broadcastInDim S1024x1024 ![] bcast_S_S1024x1024 main_cst_1
  let main_v6 : IVec S1024x1024 1 := cmpf .ogt main_arg1 main_v5
  let main_cst_2 : FVec F S_ .f32 := constant S_ .f32 0x7F800000#32
  let main_v7 : FVec F S1024x1024 .f32 := broadcastInDim S1024x1024 ![] bcast_S_S1024x1024 main_cst_2
  let main_v8 : IVec S1024x1024 1 := cmpf .olt main_arg1 main_v7
  let main_v9 : IVec S1024x1024 1 := andi main_v6 main_v8
  let main_cst_3 : FVec F S_ .f32 := constant S_ .f32 0xFF800000#32
  let main_v10 : FVec F S1024 .f32 := broadcastInDim S1024 ![] bcast_S_S1024 main_cst_3
  let main_v11 : IVec S1024 1 := cmpf .ogt main_arg2 main_v10
  let main_cst_4 : FVec F S_ .f32 := constant S_ .f32 0x7F800000#32
  let main_v12 : FVec F S1024 .f32 := broadcastInDim S1024 ![] bcast_S_S1024 main_cst_4
  let main_v13 : IVec S1024 1 := cmpf .olt main_arg2 main_v12
  let main_v14 : IVec S1024 1 := andi main_v11 main_v13
  (main_v4, main_v9, main_v14)
-- ==== Kernel.lean ====
abbrev S2x8192x1024 : Shape := ⟨3, ![2, 8192, 1024]⟩
abbrev S1024x1024 : Shape := ⟨2, ![1024, 1024]⟩
abbrev S1024 : Shape := ⟨1, ![1024]⟩
abbrev S4x16x64x32 : Shape := ⟨4, ![4, 16, 64, 32]⟩
abbrev S16384x1024 : Shape := ⟨2, ![16384, 1024]⟩
abbrev S1x1024 : Shape := ⟨2, ![1, 1024]⟩
abbrev S512x1024 : Shape := ⟨2, ![512, 1024]⟩
abbrev S1x1x1024 : Shape := ⟨3, ![1, 1, 1024]⟩
abbrev S2x8192x16x64 : Shape := ⟨4, ![2, 8192, 16, 64]⟩
abbrev S2x16x8192x64 : Shape := ⟨4, ![2, 16, 8192, 64]⟩
abbrev S8192 : Shape := ⟨1, ![8192]⟩
abbrev S1x1x8192 : Shape := ⟨3, ![1, 1, 8192]⟩
abbrev S1x16x64x32 : Shape := ⟨4, ![1, 16, 64, 32]⟩
abbrev S16x64x32 : Shape := ⟨3, ![16, 64, 32]⟩
abbrev S16x32x2x8192 : Shape := ⟨4, ![16, 32, 2, 8192]⟩
abbrev S2x16x8192x32 : Shape := ⟨4, ![2, 16, 8192, 32]⟩
abbrev S_ : Shape := ⟨0, ![]⟩
abbrev S2x16x8192 : Shape := ⟨3, ![2, 16, 8192]⟩
abbrev S2x16x8192x1 : Shape := ⟨4, ![2, 16, 8192, 1]⟩
abbrev S1 : Shape := ⟨1, ![1]⟩
abbrev S1x1x1x1 : Shape := ⟨4, ![1, 1, 1, 1]⟩
abbrev S1x2x16x8192 : Shape := ⟨4, ![1, 2, 16, 8192]⟩
abbrev S4x2x16x8192 : Shape := ⟨4, ![4, 2, 16, 8192]⟩
abbrev S1x2x16x8192x64 : Shape := ⟨5, ![1, 2, 16, 8192, 64]⟩
abbrev S4x2x16x8192x1 : Shape := ⟨5, ![4, 2, 16, 8192, 1]⟩
abbrev S1x1x1x1x1 : Shape := ⟨5, ![1, 1, 1, 1, 1]⟩
abbrev S4x2x16x8192x64 : Shape := ⟨5, ![4, 2, 16, 8192, 64]⟩
abbrev S128x8192x64 : Shape := ⟨3, ![128, 8192, 64]⟩
abbrev S128x1x8192 : Shape := ⟨3, ![128, 1, 8192]⟩
abbrev S128x8192x1 : Shape := ⟨3, ![128, 8192, 1]⟩
abbrev S1x8192x64 : Shape := ⟨3, ![1, 8192, 64]⟩
abbrev S1x8192x1 : Shape := ⟨3, ![1, 8192, 1]⟩
abbrev S1x128x64 : Shape := ⟨3, ![1, 128, 64]⟩
abbrev S128x64 : Shape := ⟨2, ![128, 64]⟩
abbrev S1x256x64 : Shape := ⟨3, ![1, 256, 64]⟩
abbrev S256x64 : Shape := ⟨2, ![256, 64]⟩
abbrev S1x128x1 : Shape := ⟨3, ![1, 128, 1]⟩
abbrev S128x1 : Shape := ⟨2, ![128, 1]⟩
abbrev S1x1x256 : Shape := ⟨3, ![1, 1, 256]⟩
abbrev S1x256 : Shape := ⟨2, ![1, 256]⟩
abbrev S128x256 : Shape := ⟨2, ![128, 256]⟩
abbrev S128 : Shape := ⟨1, ![128]⟩

abbrev nBuf : Space → Nat
  | .hbm => 295
  | .vmem => 26
  | .smem => 0
  | _ => 0

abbrev hbmTy0_0 (i : Nat) : BufTy := match i % 128 with
  | 0 => ⟨S2x8192x1024, .f32⟩
  | 1 => ⟨S1024x1024, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S4x16x64x32, .f32⟩
  | 8 => ⟨S16384x1024, .f32⟩
  | 9 => ⟨S1024x1024, .f32⟩
  | 10 => ⟨S1x1024, .f32⟩
  | 11 => ⟨S1024x1024, .f32⟩
  | 12 => ⟨S1x1024, .f32⟩
  | 13 => ⟨S16384x1024, .f32⟩
  | 14 => ⟨S16384x1024, .f32⟩
  | 15 => ⟨S1024x1024, .f32⟩
  | 16 => ⟨S2x8192x1024, .f32⟩
  | 17 => ⟨S1x1x1024, .f32⟩
  | 18 => ⟨S2x8192x1024, .f32⟩
  | 19 => ⟨S2x8192x1024, .f32⟩
  | 20 => ⟨S2x8192x16x64, .f32⟩
  | 21 => ⟨S2x16x8192x64, .f32⟩
  | 22 => ⟨S8192, .i32⟩
  | 23 => ⟨S1x1x8192, .i32⟩
  | 24 => ⟨S1x16x64x32, .f32⟩
  | 25 => ⟨S16x64x32, .f32⟩
  | 26 => ⟨S16x32x2x8192, .f32⟩
  | 27 => ⟨S2x16x8192x32, .f32⟩
  | 28 => ⟨S2x16x8192x32, .f32⟩
  | 29 => ⟨S2x16x8192x64, .f32⟩
  | 30 => ⟨S2x16x8192x64, .i32⟩
  | 31 => ⟨S_, .f32⟩
  | 32 => ⟨S_, .i32⟩
  | 33 => ⟨S2x16x8192, .f32⟩
  | 34 => ⟨S2x16x8192, .i32⟩
  | 35 => ⟨S_, .i32⟩
  | 36 => ⟨S2x16x8192, .i32⟩
  | 37 => ⟨S2x16x8192, .i32⟩
  | 38 => ⟨S2x16x8192, .i32⟩
  | 39 => ⟨S2x16x8192, .i32⟩
  | 40 => ⟨S2x16x8192, .i32⟩
  | 41 => ⟨S2x16x8192, .i32⟩
  | 42 => ⟨S2x16x8192, .i32⟩
  | 43 => ⟨S_, .i32⟩
  | 44 => ⟨S2x16x8192, .i32⟩
  | 45 => ⟨S2x16x8192, .i1⟩
  | 46 => ⟨S_, .i32⟩
  | 47 => ⟨S2x16x8192, .i32⟩
  | 48 => ⟨S2x16x8192, .i32⟩
  | 49 => ⟨S2x16x8192, .i32⟩
  | 50 => ⟨S2x16x8192x1, .i32⟩
  | 51 => ⟨S1, .i32⟩
  | 52 => ⟨S_, .i32⟩
  | 53 => ⟨S2x16x8192x1, .i32⟩
  | 54 => ⟨S2x16x8192x1, .i1⟩
  | 55 => ⟨S1x1x1x1, .i32⟩
  | 56 => ⟨S2x16x8192x1, .i32⟩
  | 57 => ⟨S2x16x8192x1, .i1⟩
  | 58 => ⟨S2x16x8192x1, .i1⟩
  | 59 => ⟨S_, .i1⟩
  | 60 => ⟨S2x16x8192, .i1⟩
  | 61 => ⟨S2x16x8192, .i32⟩
  | 62 => ⟨S_, .i32⟩
  | 63 => ⟨S2x16x8192, .i32⟩
  | 64 => ⟨S2x16x8192, .i32⟩
  | 65 => ⟨S1x16x64x32, .f32⟩
  | 66 => ⟨S16x64x32, .f32⟩
  | 67 => ⟨S16x32x2x8192, .f32⟩
  | 68 => ⟨S2x16x8192x32, .f32⟩
  | 69 => ⟨S2x16x8192x32, .f32⟩
  | 70 => ⟨S2x16x8192x64, .f32⟩
  | 71 => ⟨S2x16x8192x64, .i32⟩
  | 72 => ⟨S_, .f32⟩
  | 73 => ⟨S_, .i32⟩
  | 74 => ⟨S2x16x8192, .f32⟩
  | 75 => ⟨S2x16x8192, .i32⟩
  | 76 => ⟨S_, .i32⟩
  | 77 => ⟨S2x16x8192, .i32⟩
  | 78 => ⟨S2x16x8192, .i32⟩
  | 79 => ⟨S2x16x8192, .i32⟩
  | 80 => ⟨S2x16x8192, .i32⟩
  | 81 => ⟨S2x16x8192, .i32⟩
  | 82 => ⟨S2x16x8192, .i32⟩
  | 83 => ⟨S2x16x8192, .i32⟩
  | 84 => ⟨S_, .i32⟩
  | 85 => ⟨S2x16x8192, .i32⟩
  | 86 => ⟨S2x16x8192, .i1⟩
  | 87 => ⟨S_, .i32⟩
  | 88 => ⟨S2x16x8192, .i32⟩
  | 89 => ⟨S2x16x8192, .i32⟩
  | 90 => ⟨S2x16x8192, .i32⟩
  | 91 => ⟨S2x16x8192x1, .i32⟩
  | 92 => ⟨S1, .i32⟩
  | 93 => ⟨S_, .i32⟩
  | 94 => ⟨S2x16x8192x1, .i32⟩
  | 95 => ⟨S2x16x8192x1, .i1⟩
  | 96 => ⟨S1x1x1x1, .i32⟩
  | 97 => ⟨S2x16x8192x1, .i32⟩
  | 98 => ⟨S2x16x8192x1, .i1⟩
  | 99 => ⟨S2x16x8192x1, .i1⟩
  | 100 => ⟨S_, .i1⟩
  | 101 => ⟨S2x16x8192, .i1⟩
  | 102 => ⟨S2x16x8192, .i32⟩
  | 103 => ⟨S_, .i32⟩
  | 104 => ⟨S2x16x8192, .i32⟩
  | 105 => ⟨S2x16x8192, .i32⟩
  | 106 => ⟨S1x16x64x32, .f32⟩
  | 107 => ⟨S16x64x32, .f32⟩
  | 108 => ⟨S16x32x2x8192, .f32⟩
  | 109 => ⟨S2x16x8192x32, .f32⟩
  | 110 => ⟨S2x16x8192x32, .f32⟩
  | 111 => ⟨S2x16x8192x64, .f32⟩
  | 112 => ⟨S2x16x8192x64, .i32⟩
  | 113 => ⟨S_, .f32⟩
  | 114 => ⟨S_, .i32⟩
  | 115 => ⟨S2x16x8192, .f32⟩
  | 116 => ⟨S2x16x8192, .i32⟩
  | 117 => ⟨S_, .i32⟩
  | 118 => ⟨S2x16x8192, .i32⟩
  | 119 => ⟨S2x16x8192, .i32⟩
  | 120 => ⟨S2x16x8192, .i32⟩
  | 121 => ⟨S2x16x8192, .i32⟩
  | 122 => ⟨S2x16x8192, .i32⟩
  | 123 => ⟨S2x16x8192, .i32⟩
  | 124 => ⟨S2x16x8192, .i32⟩
  | 125 => ⟨S_, .i32⟩
  | 126 => ⟨S2x16x8192, .i32⟩
  | 127 => ⟨S2x16x8192, .i1⟩
  | _ => ⟨S2x8192x1024, .f32⟩

abbrev hbmTy0_1 (i : Nat) : BufTy := match i % 128 with
  | 0 => ⟨S_, .i32⟩
  | 1 => ⟨S2x16x8192, .i32⟩
  | 2 => ⟨S2x16x8192, .i32⟩
  | 3 => ⟨S2x16x8192, .i32⟩
  | 4 => ⟨S2x16x8192x1, .i32⟩
  | 5 => ⟨S1, .i32⟩
  | 6 => ⟨S_, .i32⟩
  | 7 => ⟨S2x16x8192x1, .i32⟩
  | 8 => ⟨S2x16x8192x1, .i1⟩
  | 9 => ⟨S1x1x1x1, .i32⟩
  | 10 => ⟨S2x16x8192x1, .i32⟩
  | 11 => ⟨S2x16x8192x1, .i1⟩
  | 12 => ⟨S2x16x8192x1, .i1⟩
  | 13 => ⟨S_, .i1⟩
  | 14 => ⟨S2x16x8192, .i1⟩
  | 15 => ⟨S2x16x8192, .i32⟩
  | 16 => ⟨S_, .i32⟩
  | 17 => ⟨S2x16x8192, .i32⟩
  | 18 => ⟨S2x16x8192, .i32⟩
  | 19 => ⟨S1x16x64x32, .f32⟩
  | 20 => ⟨S16x64x32, .f32⟩
  | 21 => ⟨S16x32x2x8192, .f32⟩
  | 22 => ⟨S2x16x8192x32, .f32⟩
  | 23 => ⟨S2x16x8192x32, .f32⟩
  | 24 => ⟨S2x16x8192x64, .f32⟩
  | 25 => ⟨S2x16x8192x64, .i32⟩
  | 26 => ⟨S_, .f32⟩
  | 27 => ⟨S_, .i32⟩
  | 28 => ⟨S2x16x8192, .f32⟩
  | 29 => ⟨S2x16x8192, .i32⟩
  | 30 => ⟨S_, .i32⟩
  | 31 => ⟨S2x16x8192, .i32⟩
  | 32 => ⟨S2x16x8192, .i32⟩
  | 33 => ⟨S2x16x8192, .i32⟩
  | 34 => ⟨S2x16x8192, .i32⟩
  | 35 => ⟨S2x16x8192, .i32⟩
  | 36 => ⟨S2x16x8192, .i32⟩
  | 37 => ⟨S2x16x8192, .i32⟩
  | 38 => ⟨S_, .i32⟩
  | 39 => ⟨S2x16x8192, .i32⟩
  | 40 => ⟨S2x16x8192, .i1⟩
  | 41 => ⟨S_, .i32⟩
  | 42 => ⟨S2x16x8192, .i32⟩
  | 43 => ⟨S2x16x8192, .i32⟩
  | 44 => ⟨S2x16x8192, .i32⟩
  | 45 => ⟨S2x16x8192x1, .i32⟩
  | 46 => ⟨S1, .i32⟩
  | 47 => ⟨S_, .i32⟩
  | 48 => ⟨S2x16x8192x1, .i32⟩
  | 49 => ⟨S2x16x8192x1, .i1⟩
  | 50 => ⟨S1x1x1x1, .i32⟩
  | 51 => ⟨S2x16x8192x1, .i32⟩
  | 52 => ⟨S2x16x8192x1, .i1⟩
  | 53 => ⟨S2x16x8192x1, .i1⟩
  | 54 => ⟨S_, .i1⟩
  | 55 => ⟨S2x16x8192, .i1⟩
  | 56 => ⟨S2x16x8192, .i32⟩
  | 57 => ⟨S_, .i32⟩
  | 58 => ⟨S2x16x8192, .i32⟩
  | 59 => ⟨S2x16x8192, .i32⟩
  | 60 => ⟨S1x2x16x8192, .i32⟩
  | 61 => ⟨S1x2x16x8192, .i32⟩
  | 62 => ⟨S1x2x16x8192, .i32⟩
  | 63 => ⟨S1x2x16x8192, .i32⟩
  | 64 => ⟨S4x2x16x8192, .i32⟩
  | 65 => ⟨S1x2x16x8192, .i32⟩
  | 66 => ⟨S1x2x16x8192, .i32⟩
  | 67 => ⟨S1x2x16x8192, .i32⟩
  | 68 => ⟨S1x2x16x8192, .i32⟩
  | 69 => ⟨S4x2x16x8192, .i32⟩
  | 70 => ⟨S2x8192x16x64, .f32⟩
  | 71 => ⟨S2x16x8192x64, .f32⟩
  | 72 => ⟨S2x8192x16x64, .f32⟩
  | 73 => ⟨S2x16x8192x64, .f32⟩
  | 74 => ⟨S1x2x16x8192x64, .f32⟩
  | 75 => ⟨S4x2x16x8192x1, .i32⟩
  | 76 => ⟨S_, .i32⟩
  | 77 => ⟨S4x2x16x8192x1, .i32⟩
  | 78 => ⟨S4x2x16x8192x1, .i1⟩
  | 79 => ⟨S_, .i32⟩
  | 80 => ⟨S4x2x16x8192x1, .i32⟩
  | 81 => ⟨S4x2x16x8192x1, .i32⟩
  | 82 => ⟨S4x2x16x8192x1, .i32⟩
  | 83 => ⟨S2x16x8192x64, .f32⟩
  | 84 => ⟨S1, .i32⟩
  | 85 => ⟨S_, .i32⟩
  | 86 => ⟨S4x2x16x8192x1, .i32⟩
  | 87 => ⟨S4x2x16x8192x1, .i1⟩
  | 88 => ⟨S1x1x1x1x1, .i32⟩
  | 89 => ⟨S4x2x16x8192x1, .i32⟩
  | 90 => ⟨S4x2x16x8192x1, .i1⟩
  | 91 => ⟨S4x2x16x8192x1, .i1⟩
  | 92 => ⟨S_, .i1⟩
  | 93 => ⟨S4x2x16x8192, .i1⟩
  | 94 => ⟨S4x2x16x8192x64, .f32⟩
  | 95 => ⟨S4x2x16x8192x64, .i1⟩
  | 96 => ⟨S_, .f32⟩
  | 97 => ⟨S4x2x16x8192x64, .f32⟩
  | 98 => ⟨S4x2x16x8192x64, .f32⟩
  | 99 => ⟨S1x2x16x8192x64, .f32⟩
  | 100 => ⟨S4x2x16x8192x1, .i32⟩
  | 101 => ⟨S_, .i32⟩
  | 102 => ⟨S4x2x16x8192x1, .i32⟩
  | 103 => ⟨S4x2x16x8192x1, .i1⟩
  | 104 => ⟨S_, .i32⟩
  | 105 => ⟨S4x2x16x8192x1, .i32⟩
  | 106 => ⟨S4x2x16x8192x1, .i32⟩
  | 107 => ⟨S4x2x16x8192x1, .i32⟩
  | 108 => ⟨S2x16x8192x64, .f32⟩
  | 109 => ⟨S1, .i32⟩
  | 110 => ⟨S_, .i32⟩
  | 111 => ⟨S4x2x16x8192x1, .i32⟩
  | 112 => ⟨S4x2x16x8192x1, .i1⟩
  | 113 => ⟨S1x1x1x1x1, .i32⟩
  | 114 => ⟨S4x2x16x8192x1, .i32⟩
  | 115 => ⟨S4x2x16x8192x1, .i1⟩
  | 116 => ⟨S4x2x16x8192x1, .i1⟩
  | 117 => ⟨S_, .i1⟩
  | 118 => ⟨S4x2x16x8192, .i1⟩
  | 119 => ⟨S4x2x16x8192x64, .f32⟩
  | 120 => ⟨S4x2x16x8192x64, .i1⟩
  | 121 => ⟨S_, .f32⟩
  | 122 => ⟨S4x2x16x8192x64, .f32⟩
  | 123 => ⟨S4x2x16x8192x64, .f32⟩
  | 124 => ⟨S128x8192x64, .f32⟩
  | 125 => ⟨S128x8192x64, .f32⟩
  | 126 => ⟨S128x1x8192, .i32⟩
  | 127 => ⟨S128x8192x1, .i32⟩
  | _ => ⟨S2x8192x1024, .f32⟩

abbrev hbmTy0_2 (i : Nat) : BufTy := match i % 128 with
  | 0 => ⟨S128x8192x64, .f32⟩
  | 1 => ⟨S4x2x16x8192x64, .f32⟩
  | 2 => ⟨S4x2x16x8192, .i32⟩
  | 3 => ⟨S4x2x16x8192, .i32⟩
  | 4 => ⟨S4x2x16x8192, .i32⟩
  | 5 => ⟨S4x2x16x8192x1, .i32⟩
  | 6 => ⟨S_, .i32⟩
  | 7 => ⟨S4x2x16x8192x1, .i32⟩
  | 8 => ⟨S4x2x16x8192x1, .i1⟩
  | 9 => ⟨S_, .i32⟩
  | 10 => ⟨S4x2x16x8192x1, .i32⟩
  | 11 => ⟨S4x2x16x8192x1, .i32⟩
  | 12 => ⟨S4x2x16x8192x1, .i32⟩
  | 13 => ⟨S1, .i32⟩
  | 14 => ⟨S_, .i32⟩
  | 15 => ⟨S4x2x16x8192x1, .i32⟩
  | 16 => ⟨S4x2x16x8192x1, .i1⟩
  | 17 => ⟨S1x1x1x1x1, .i32⟩
  | 18 => ⟨S4x2x16x8192x1, .i32⟩
  | 19 => ⟨S4x2x16x8192x1, .i1⟩
  | 20 => ⟨S4x2x16x8192x1, .i1⟩
  | 21 => ⟨S_, .i1⟩
  | 22 => ⟨S4x2x16x8192, .i1⟩
  | 23 => ⟨S4x2x16x8192x64, .f32⟩
  | 24 => ⟨S4x2x16x8192x64, .i1⟩
  | 25 => ⟨S_, .f32⟩
  | 26 => ⟨S4x2x16x8192x64, .f32⟩
  | 27 => ⟨S4x2x16x8192x64, .f32⟩
  | 28 => ⟨S_, .f32⟩
  | 29 => ⟨S2x16x8192x64, .f32⟩
  | 30 => ⟨S_, .f32⟩
  | 31 => ⟨S2x16x8192x64, .f32⟩
  | 32 => ⟨S2x16x8192x64, .f32⟩
  | 33 => ⟨S2x8192x16x64, .f32⟩
  | 34 => ⟨S16384x1024, .f32⟩
  | 35 => ⟨S1024x1024, .f32⟩
  | 36 => ⟨S1x1024, .f32⟩
  | 37 => ⟨S16384x1024, .f32⟩
  | 38 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x8192x64, .f32⟩
  | .local _ .vmem, ⟨11, _⟩ => ⟨S1x8192x64, .f32⟩
  | .local _ .vmem, ⟨12, _⟩ => ⟨S1x8192x64, .f32⟩
  | .local _ .vmem, ⟨13, _⟩ => ⟨S1x8192x64, .f32⟩
  | .local _ .vmem, ⟨14, _⟩ => ⟨S1x1x8192, .i32⟩
  | .local _ .vmem, ⟨15, _⟩ => ⟨S1x1x8192, .i32⟩
  | .local _ .vmem, ⟨16, _⟩ => ⟨S1x8192x1, .i32⟩
  | .local _ .vmem, ⟨17, _⟩ => ⟨S1x8192x1, .i32⟩
  | .local _ .vmem, ⟨18, _⟩ => ⟨S1x8192x64, .f32⟩
  | .local _ .vmem, ⟨19, _⟩ => ⟨S1x8192x64, .f32⟩
  | .local _ .vmem, ⟨20, _⟩ => ⟨S512x1024, .f32⟩
  | .local _ .vmem, ⟨21, _⟩ => ⟨S512x1024, .f32⟩
  | .local _ .vmem, ⟨22, _⟩ => ⟨S1024x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_cst : Ref sig .tc := ⟨.hbm, 31, rfl⟩
abbrev main_call0_c : Ref sig .tc := ⟨.hbm, 32, rfl⟩
abbrev main_call0_v1_0 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_v0 : Ref sig .tc := ⟨.hbm, 40, rfl⟩
abbrev main_call1_v1_0 : Ref sig .tc := ⟨.hbm, 41, rfl⟩
abbrev main_v26 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_c_4 : Ref sig .tc := ⟨.hbm, 62, rfl⟩
abbrev main_call2_v14 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_call3_v0 : Ref sig .tc := ⟨.hbm, 71, rfl⟩
abbrev main_call3_cst : Ref sig .tc := ⟨.hbm, 72, rfl⟩
abbrev main_call3_c : Ref sig .tc := ⟨.hbm, 73, rfl⟩
abbrev main_call3_v1_0 : Ref sig .tc := ⟨.hbm, 74, rfl⟩
abbrev main_v34 : Ref sig .tc := ⟨.hbm, 75, rfl⟩
abbrev main_c_0 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_call4_v0 : Ref sig .tc := ⟨.hbm, 81, rfl⟩
abbrev main_call4_v1_0 : Ref sig .tc := ⟨.hbm, 82, rfl⟩
abbrev main_v39 : Ref sig .tc := ⟨.hbm, 83, rfl⟩
abbrev main_call5_c : Ref sig .tc := ⟨.hbm, 84, rfl⟩
abbrev main_call5_v0 : Ref sig .tc := ⟨.hbm, 85, rfl⟩
abbrev main_call5_v1 : Ref sig .tc := ⟨.hbm, 86, rfl⟩
abbrev main_call5_c_0 : Ref sig .tc := ⟨.hbm, 87, rfl⟩
abbrev main_call5_v2 : Ref sig .tc := ⟨.hbm, 88, rfl⟩
abbrev main_call5_v3 : Ref sig .tc := ⟨.hbm, 89, rfl⟩
abbrev main_call5_v4 : Ref sig .tc := ⟨.hbm, 90, rfl⟩
abbrev main_call5_v5 : Ref sig .tc := ⟨.hbm, 91, rfl⟩
abbrev main_call5_c_1 : Ref sig .tc := ⟨.hbm, 92, rfl⟩
abbrev main_call5_c_2 : Ref sig .tc := ⟨.hbm, 93, rfl⟩
abbrev main_call5_v6 : Ref sig .tc := ⟨.hbm, 94, rfl⟩
abbrev main_call5_v7 : Ref sig .tc := ⟨.hbm, 95, rfl⟩
abbrev main_call5_v8 : Ref sig .tc := ⟨.hbm, 96, rfl⟩
abbrev main_call5_v9 : Ref sig .tc := ⟨.hbm, 97, rfl⟩
abbrev main_call5_v10 : Ref sig .tc := ⟨.hbm, 98, rfl⟩
abbrev main_call5_v11 : Ref sig .tc := ⟨.hbm, 99, rfl⟩
abbrev main_call5_c_3 : Ref sig .tc := ⟨.hbm, 100, rfl⟩
abbrev main_call5_v12 : Ref sig .tc := ⟨.hbm, 101, rfl⟩
abbrev main_call5_v13 : Ref sig .tc := ⟨.hbm, 102, rfl⟩
abbrev main_call5_c_4 : Ref sig .tc := ⟨.hbm, 103, rfl⟩
abbrev main_call5_v14 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_call6_v0 : Ref sig .tc := ⟨.hbm, 112, rfl⟩
abbrev main_call6_cst : Ref sig .tc := ⟨.hbm, 113, rfl⟩
abbrev main_call6_c : Ref sig .tc := ⟨.hbm, 114, rfl⟩
abbrev main_call6_v1_0 : Ref sig .tc := ⟨.hbm, 115, rfl⟩
abbrev main_v47 : Ref sig .tc := ⟨.hbm, 116, rfl⟩
abbrev main_c_1 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_call7_v0 : Ref sig .tc := ⟨.hbm, 122, rfl⟩
abbrev main_call7_v1_0 : Ref sig .tc := ⟨.hbm, 123, rfl⟩
abbrev main_v52 : Ref sig .tc := ⟨.hbm, 124, rfl⟩
abbrev main_call8_c : Ref sig .tc := ⟨.hbm, 125, rfl⟩
abbrev main_call8_v0 : Ref sig .tc := ⟨.hbm, 126, rfl⟩
abbrev main_call8_v1 : Ref sig .tc := ⟨.hbm, 127, rfl⟩
abbrev main_call8_c_0 : Ref sig .tc := ⟨.hbm, 128, rfl⟩
abbrev main_call8_v2 : Ref sig .tc := ⟨.hbm, 129, rfl⟩
abbrev main_call8_v3 : Ref sig .tc := ⟨.hbm, 130, rfl⟩
abbrev main_call8_v4 : Ref sig .tc := ⟨.hbm, 131, rfl⟩
abbrev main_call8_v5 : Ref sig .tc := ⟨.hbm, 132, rfl⟩
abbrev main_call8_c_1 : Ref sig .tc := ⟨.hbm, 133, rfl⟩
abbrev main_call8_c_2 : Ref sig .tc := ⟨.hbm, 134, rfl⟩
abbrev main_call8_v6 : Ref sig .tc := ⟨.hbm, 135, rfl⟩
abbrev main_call8_v7 : Ref sig .tc := ⟨.hbm, 136, rfl⟩
abbrev main_call8_v8 : Ref sig .tc := ⟨.hbm, 137, rfl⟩
abbrev main_call8_v9 : Ref sig .tc := ⟨.hbm, 138, rfl⟩
abbrev main_call8_v10 : Ref sig .tc := ⟨.hbm, 139, rfl⟩
abbrev main_call8_v11 : Ref sig .tc := ⟨.hbm, 140, rfl⟩
abbrev main_call8_c_3 : Ref sig .tc := ⟨.hbm, 141, rfl⟩
abbrev main_call8_v12 : Ref sig .tc := ⟨.hbm, 142, rfl⟩
abbrev main_call8_v13 : Ref sig .tc := ⟨.hbm, 143, rfl⟩
abbrev main_call8_c_4 : Ref sig .tc := ⟨.hbm, 144, rfl⟩
abbrev main_call8_v14 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_call9_v0 : Ref sig .tc := ⟨.hbm, 153, rfl⟩
abbrev main_call9_cst : Ref sig .tc := ⟨.hbm, 154, rfl⟩
abbrev main_call9_c : Ref sig .tc := ⟨.hbm, 155, rfl⟩
abbrev main_call9_v1_0 : Ref sig .tc := ⟨.hbm, 156, rfl⟩
abbrev main_v60 : Ref sig .tc := ⟨.hbm, 157, rfl⟩
abbrev main_c_2 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_call10_v0 : Ref sig .tc := ⟨.hbm, 163, rfl⟩
abbrev main_call10_v1_0 : Ref sig .tc := ⟨.hbm, 164, rfl⟩
abbrev main_v65 : Ref sig .tc := ⟨.hbm, 165, rfl⟩
abbrev main_call11_c : Ref sig .tc := ⟨.hbm, 166, rfl⟩
abbrev main_call11_v0 : Ref sig .tc := ⟨.hbm, 167, rfl⟩
abbrev main_call11_v1 : Ref sig .tc := ⟨.hbm, 168, rfl⟩
abbrev main_call11_c_0 : Ref sig .tc := ⟨.hbm, 169, rfl⟩
abbrev main_call11_v2 : Ref sig .tc := ⟨.hbm, 170, rfl⟩
abbrev main_call11_v3 : Ref sig .tc := ⟨.hbm, 171, rfl⟩
abbrev main_call11_v4 : Ref sig .tc := ⟨.hbm, 172, rfl⟩
abbrev main_call11_v5 : Ref sig .tc := ⟨.hbm, 173, rfl⟩
abbrev main_call11_c_1 : Ref sig .tc := ⟨.hbm, 174, rfl⟩
abbrev main_call11_c_2 : Ref sig .tc := ⟨.hbm, 175, rfl⟩
abbrev main_call11_v6 : Ref sig .tc := ⟨.hbm, 176, rfl⟩
abbrev main_call11_v7 : Ref sig .tc := ⟨.hbm, 177, rfl⟩
abbrev main_call11_v8 : Ref sig .tc := ⟨.hbm, 178, rfl⟩
abbrev main_call11_v9 : Ref sig .tc := ⟨.hbm, 179, rfl⟩
abbrev main_call11_v10 : Ref sig .tc := ⟨.hbm, 180, rfl⟩
abbrev main_call11_v11 : Ref sig .tc := ⟨.hbm, 181, rfl⟩
abbrev main_call11_c_3 : Ref sig .tc := ⟨.hbm, 182, rfl⟩
abbrev main_call11_v12 : Ref sig .tc := ⟨.hbm, 183, rfl⟩
abbrev main_call11_v13 : Ref sig .tc := ⟨.hbm, 184, rfl⟩
abbrev main_call11_c_4 : Ref sig .tc := ⟨.hbm, 185, rfl⟩
abbrev main_call11_v14 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_v81 : Ref sig .tc := ⟨.hbm, 202, rfl⟩
abbrev main_v82 : Ref sig .tc := ⟨.hbm, 203, rfl⟩
abbrev main_call12_c : Ref sig .tc := ⟨.hbm, 204, rfl⟩
abbrev main_call12_v0 : Ref sig .tc := ⟨.hbm, 205, rfl⟩
abbrev main_call12_v1 : Ref sig .tc := ⟨.hbm, 206, rfl⟩
abbrev main_call12_c_0 : Ref sig .tc := ⟨.hbm, 207, rfl⟩
abbrev main_call12_v2 : Ref sig .tc := ⟨.hbm, 208, rfl⟩
abbrev main_call12_v3 : Ref sig .tc := ⟨.hbm, 209, rfl⟩
abbrev main_call12_v4 : Ref sig .tc := ⟨.hbm, 210, rfl⟩
abbrev main_call12_v5 : Ref sig .tc := ⟨.hbm, 211, rfl⟩
abbrev main_call12_c_1 : Ref sig .tc := ⟨.hbm, 212, rfl⟩
abbrev main_call12_c_2 : Ref sig .tc := ⟨.hbm, 213, rfl⟩
abbrev main_call12_v6 : Ref sig .tc := ⟨.hbm, 214, rfl⟩
abbrev main_call12_v7 : Ref sig .tc := ⟨.hbm, 215, rfl⟩
abbrev main_call12_v8 : Ref sig .tc := ⟨.hbm, 216, rfl⟩
abbrev main_call12_v9 : Ref sig .tc := ⟨.hbm, 217, rfl⟩
abbrev main_call12_v10 : Ref sig .tc := ⟨.hbm, 218, rfl⟩
abbrev main_call12_v11 : Ref sig .tc := ⟨.hbm, 219, rfl⟩
abbrev main_call12_c_3 : Ref sig .tc := ⟨.hbm, 220, rfl⟩
abbrev main_call12_v12 : Ref sig .tc := ⟨.hbm, 221, rfl⟩
abbrev main_call12_v13 : Ref sig .tc := ⟨.hbm, 222, rfl⟩
abbrev main_call12_v14 : Ref sig .tc := ⟨.hbm, 223, rfl⟩
abbrev main_call12_cst : Ref sig .tc := ⟨.hbm, 224, rfl⟩
abbrev main_call12_v15 : Ref sig .tc := ⟨.hbm, 225, rfl⟩
abbrev main_v83 : Ref sig .tc := ⟨.hbm, 226, rfl⟩
abbrev main_v84 : Ref sig .tc := ⟨.hbm, 227, rfl⟩
abbrev main_v85 : Ref sig .tc := ⟨.hbm, 228, rfl⟩
abbrev main_call13_c : Ref sig .tc := ⟨.hbm, 229, rfl⟩
abbrev main_call13_v0 : Ref sig .tc := ⟨.hbm, 230, rfl⟩
abbrev main_call13_v1 : Ref sig .tc := ⟨.hbm, 231, rfl⟩
abbrev main_call13_c_0 : Ref sig .tc := ⟨.hbm, 232, rfl⟩
abbrev main_call13_v2 : Ref sig .tc := ⟨.hbm, 233, rfl⟩
abbrev main_call13_v3 : Ref sig .tc := ⟨.hbm, 234, rfl⟩
abbrev main_call13_v4 : Ref sig .tc := ⟨.hbm, 235, rfl⟩
abbrev main_call13_v5 : Ref sig .tc := ⟨.hbm, 236, rfl⟩
abbrev main_call13_c_1 : Ref sig .tc := ⟨.hbm, 237, rfl⟩
abbrev main_call13_c_2 : Ref sig .tc := ⟨.hbm, 238, rfl⟩
abbrev main_call13_v6 : Ref sig .tc := ⟨.hbm, 239, rfl⟩
abbrev main_call13_v7 : Ref sig .tc := ⟨.hbm, 240, rfl⟩
abbrev main_call13_v8 : Ref sig .tc := ⟨.hbm, 241, rfl⟩
abbrev main_call13_v9 : Ref sig .tc := ⟨.hbm, 242, rfl⟩
abbrev main_call13_v10 : Ref sig .tc := ⟨.hbm, 243, rfl⟩
abbrev main_call13_v11 : Ref sig .tc := ⟨.hbm, 244, rfl⟩
abbrev main_call13_c_3 : Ref sig .tc := ⟨.hbm, 245, rfl⟩
abbrev main_call13_v12 : Ref sig .tc := ⟨.hbm, 246, rfl⟩
abbrev main_call13_v13 : Ref sig .tc := ⟨.hbm, 247, rfl⟩
abbrev main_call13_v14 : Ref sig .tc := ⟨.hbm, 248, rfl⟩
abbrev main_call13_cst : Ref sig .tc := ⟨.hbm, 249, rfl⟩
abbrev main_call13_v15 : Ref sig .tc := ⟨.hbm, 250, rfl⟩
abbrev main_v86 : Ref sig .tc := ⟨.hbm, 251, rfl⟩
abbrev main_v87 : Ref sig .tc := ⟨.hbm, 252, rfl⟩
abbrev main_v88 : Ref sig .tc := ⟨.hbm, 253, rfl⟩
abbrev main_v89 : Ref sig .tc := ⟨.hbm, 254, rfl⟩
abbrev main_v90 : Ref sig .tc := ⟨.hbm, 255, rfl⟩
abbrev main_v91 : Ref sig .tc := ⟨.hbm, 256, rfl⟩
abbrev main_v92 : Ref sig .tc := ⟨.hbm, 257, rfl⟩
abbrev main_call14_v0 : Ref sig .tc := ⟨.hbm, 258, rfl⟩
abbrev main_call14_v1_0 : Ref sig .tc := ⟨.hbm, 259, rfl⟩
abbrev main_v93 : Ref sig .tc := ⟨.hbm, 260, rfl⟩
abbrev main_v94 : Ref sig .tc := ⟨.hbm, 261, rfl⟩
abbrev main_call15_c : Ref sig .tc := ⟨.hbm, 262, rfl⟩
abbrev main_call15_v0 : Ref sig .tc := ⟨.hbm, 263, rfl⟩
abbrev main_call15_v1 : Ref sig .tc := ⟨.hbm, 264, rfl⟩
abbrev main_call15_c_0 : Ref sig .tc := ⟨.hbm, 265, rfl⟩
abbrev main_call15_v2 : Ref sig .tc := ⟨.hbm, 266, rfl⟩
abbrev main_call15_v3 : Ref sig .tc := ⟨.hbm, 267, rfl⟩
abbrev main_call15_v4 : Ref sig .tc := ⟨.hbm, 268, rfl⟩
abbrev main_call15_c_1 : Ref sig .tc := ⟨.hbm, 269, rfl⟩
abbrev main_call15_c_2 : Ref sig .tc := ⟨.hbm, 270, rfl⟩
abbrev main_call15_v5 : Ref sig .tc := ⟨.hbm, 271, rfl⟩
abbrev main_call15_v6 : Ref sig .tc := ⟨.hbm, 272, rfl⟩
abbrev main_call15_v7 : Ref sig .tc := ⟨.hbm, 273, rfl⟩
abbrev main_call15_v8 : Ref sig .tc := ⟨.hbm, 274, rfl⟩
abbrev main_call15_v9 : Ref sig .tc := ⟨.hbm, 275, rfl⟩
abbrev main_call15_v10 : Ref sig .tc := ⟨.hbm, 276, rfl⟩
abbrev main_call15_c_3 : Ref sig .tc := ⟨.hbm, 277, rfl⟩
abbrev main_call15_v11 : Ref sig .tc := ⟨.hbm, 278, rfl⟩
abbrev main_call15_v12 : Ref sig .tc := ⟨.hbm, 279, rfl⟩
abbrev main_call15_v13 : Ref sig .tc := ⟨.hbm, 280, rfl⟩
abbrev main_call15_cst : Ref sig .tc := ⟨.hbm, 281, rfl⟩
abbrev main_call15_v14 : Ref sig .tc := ⟨.hbm, 282, rfl⟩
abbrev main_v95 : Ref sig .tc := ⟨.hbm, 283, rfl⟩
abbrev main_cst : Ref sig .tc := ⟨.hbm, 284, rfl⟩
abbrev main_v96 : Ref sig .tc := ⟨.hbm, 285, rfl⟩
abbrev main_cst_3 : Ref sig .tc := ⟨.hbm, 286, rfl⟩
abbrev main_v97 : Ref sig .tc := ⟨.hbm, 287, rfl⟩
abbrev main_v98 : Ref sig .tc := ⟨.hbm, 288, rfl⟩
abbrev main_v99 : Ref sig .tc := ⟨.hbm, 289, rfl⟩
abbrev main_v100 : Ref sig .tc := ⟨.hbm, 290, rfl⟩
abbrev main_v101 : Ref sig .tc := ⟨.hbm, 291, rfl⟩
abbrev main_v102 : Ref sig .tc := ⟨.hbm, 292, rfl⟩
abbrev main_v103 : Ref sig .tc := ⟨.hbm, 293, rfl⟩
abbrev main_v104 : Ref sig .tc := ⟨.hbm, 294, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

@[reducible] def k1_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k1_off1 (k1_t1 : Fin k1_t1_loop.trips) : Fin 3 → Nat :=
  let c0 : Index := 0#32
  let c0_i32 : BitVec 32 := 0#32
  let c1_i32 : BitVec 32 := 1#32
  let arg6 : BitVec 32 := Scf.iv c0_i32 c1_i32 k1_t1
  let c128_i32 : BitVec 32 := 128#32
  let v1 : BitVec 32 := Scalar.muli arg6 c128_i32
  let v5 : Index := Scalar.indexCast v1
  let c0_4 : Index := 0#32
  ![0, v5.toNat, 0]
def k1_off2 (k1_t1 : Fin k1_t1_loop.trips) : Fin 3 → Nat :=
  let c0_5 : Index := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.subi arg6 c1_i32_1
  let c0_i32_2 : BitVec 32 := 0#32
  let v3 : BitVec 32 := Scalar.maxsi v2 c0_i32_2
  let c128_i32_3 : BitVec 32 := 128#32
  let v4 : BitVec 32 := Scalar.muli v3 c128_i32_3
  let v8 : Index := Scalar.indexCast v4
  let c0_6 : Index := 0#32
  ![0, v8.toNat, 0]
def k1_off3 (k1_t1 : Fin k1_t1_loop.trips) : Fin 3 → Nat :=
  let c0_9 : Index := 0#32
  let c0_i32 : BitVec 32 := 0#32
  let c1_i32 : BitVec 32 := 1#32
  let arg6 : BitVec 32 := Scf.iv c0_i32 c1_i32 k1_t1
  let c128_i32 : BitVec 32 := 128#32
  let v1 : BitVec 32 := Scalar.muli arg6 c128_i32
  let v14 : Index := Scalar.indexCast v1
  let c0_10 : Index := 0#32
  ![0, v14.toNat, 0]
def k1_off4 (k1_t1 : Fin k1_t1_loop.trips) : Fin 3 → Nat :=
  let c0_11 : Index := 0#32
  let c0_12 : Index := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.subi arg6 c1_i32_1
  let c0_i32_2 : BitVec 32 := 0#32
  let v3 : BitVec 32 := Scalar.maxsi v2 c0_i32_2
  let c128_i32_3 : BitVec 32 := 128#32
  let v4 : BitVec 32 := Scalar.muli v3 c128_i32_3
  let v17 : Index := Scalar.indexCast v4
  ![0, 0, v17.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x8192 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8192x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8192x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S2x8192x1024 : Shape := ⟨3, ![2, 8192, 1024]⟩
abbrev S1024x1024 : Shape := ⟨2, ![1024, 1024]⟩
abbrev S1024 : Shape := ⟨1, ![1024]⟩
abbrev S4x16x64x32 : Shape := ⟨4, ![4, 16, 64, 32]⟩
abbrev S1x1x1024 : Shape := ⟨3, ![1, 1, 1024]⟩
abbrev S2x8192x16x64 : Shape := ⟨4, ![2, 8192, 16, 64]⟩
abbrev S2x16x8192x64 : Shape := ⟨4, ![2, 16, 8192, 64]⟩
abbrev S8192 : Shape := ⟨1, ![8192]⟩
abbrev S16x4x32x2x8192 : Shape := ⟨5, ![16, 4, 32, 2, 8192]⟩
abbrev S4x2x16x8192x32 : Shape := ⟨5, ![4, 2, 16, 8192, 32]⟩
abbrev S4x2x16x8192x64 : Shape := ⟨5, ![4, 2, 16, 8192, 64]⟩
abbrev S_ : Shape := ⟨0, ![]⟩
abbrev S4x2x16x8192 : Shape := ⟨4, ![4, 2, 16, 8192]⟩
abbrev S1x1x1x8192 : Shape := ⟨4, ![1, 1, 1, 8192]⟩
abbrev S4x2x16x8192x1 : Shape := ⟨5, ![4, 2, 16, 8192, 1]⟩
abbrev S4x2x16x128x64x64 : Shape := ⟨6, ![4, 2, 16, 128, 64, 64]⟩
abbrev S4x2x16x128x64 : Shape := ⟨5, ![4, 2, 16, 128, 64]⟩
abbrev S4x2x16x127x64x64 : Shape := ⟨6, ![4, 2, 16, 127, 64, 64]⟩
abbrev S4x2x16x128x128x64 : Shape := ⟨6, ![4, 2, 16, 128, 128, 64]⟩
abbrev S4x2x16x127x64 : Shape := ⟨5, ![4, 2, 16, 127, 64]⟩
abbrev S4x2x16x128x128 : Shape := ⟨5, ![4, 2, 16, 128, 128]⟩
abbrev S4x2x16x128x64x128 : Shape := ⟨6, ![4, 2, 16, 128, 64, 128]⟩
abbrev S4x2x16x128x64x1 : Shape := ⟨6, ![4, 2, 16, 128, 64, 1]⟩
abbrev S4x2x16x128x1x128 : Shape := ⟨6, ![4, 2, 16, 128, 1, 128]⟩

abbrev nBuf : Space → Nat
  | .hbm => 123
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x16x64x32, .f32⟩
  | .hbm, ⟨8, _⟩ => ⟨S1024x1024, .f32⟩
  | .hbm, ⟨9, _⟩ => ⟨S2x8192x1024, .f32⟩
  | .hbm, ⟨10, _⟩ => ⟨S1x1x1024, .f32⟩
  | .hbm, ⟨11, _⟩ => ⟨S2x8192x1024, .f32⟩
  | .hbm, ⟨12, _⟩ => ⟨S2x8192x1024, .f32⟩
  | .hbm, ⟨13, _⟩ => ⟨S1024x1024, .f32⟩
  | .hbm, ⟨14, _⟩ => ⟨S2x8192x1024, .f32⟩
  | .hbm, ⟨15, _⟩ => ⟨S1x1x1024, .f32⟩
  | .hbm, ⟨16, _⟩ => ⟨S2x8192x1024, .f32⟩
  | .hbm, ⟨17, _⟩ => ⟨S2x8192x1024, .f32⟩
  | .hbm, ⟨18, _⟩ => ⟨S2x8192x16x64, .f32⟩
  | .hbm, ⟨19, _⟩ => ⟨S2x16x8192x64, .f32⟩
  | .hbm, ⟨20, _⟩ => ⟨S2x8192x16x64, .f32⟩
  | .hbm, ⟨21, _⟩ => ⟨S2x16x8192x64, .f32⟩
  | .hbm, ⟨22, _⟩ => ⟨S8192, .i32⟩
  | .hbm, ⟨23, _⟩ => ⟨S16x4x32x2x8192, .f32⟩
  | .hbm, ⟨24, _⟩ => ⟨S4x2x16x8192x32, .f32⟩
  | .hbm, ⟨25, _⟩ => ⟨S4x2x16x8192x32, .f32⟩
  | .hbm, ⟨26, _⟩ => ⟨S4x2x16x8192x64, .f32⟩
  | .hbm, ⟨27, _⟩ => ⟨S4x2x16x8192x64, .i32⟩
  | .hbm, ⟨28, _⟩ => ⟨S_, .f32⟩
  | .hbm, ⟨29, _⟩ => ⟨S_, .i32⟩
  | .hbm, ⟨30, _⟩ => ⟨S4x2x16x8192, .f32⟩
  | .hbm, ⟨31, _⟩ => ⟨S4x2x16x8192, .i32⟩
  | .hbm, ⟨32, _⟩ => ⟨S_, .i32⟩
  | .hbm, ⟨33, _⟩ => ⟨S4x2x16x8192, .i32⟩
  | .hbm, ⟨34, _⟩ => ⟨S4x2x16x8192, .i32⟩
  | .hbm, ⟨35, _⟩ => ⟨S1x1x1x8192, .i32⟩
  | .hbm, ⟨36, _⟩ => ⟨S4x2x16x8192, .i32⟩
  | .hbm, ⟨37, _⟩ => ⟨S4x2x16x8192, .i32⟩
  | .hbm, ⟨38, _⟩ => ⟨S4x2x16x8192, .i32⟩
  | .hbm, ⟨39, _⟩ => ⟨S4x2x16x8192, .i32⟩
  | .hbm, ⟨40, _⟩ => ⟨S4x2x16x8192, .i32⟩
  | .hbm, ⟨41, _⟩ => ⟨S4x2x16x8192x1, .i32⟩
  | .hbm, ⟨42, _⟩ => ⟨S4x2x16x8192x64, .f32⟩
  | .hbm, ⟨43, _⟩ => ⟨S4x2x16x8192x1, .i32⟩
  | .hbm, ⟨44, _⟩ => ⟨S4x2x16x8192x64, .f32⟩
  | .hbm, ⟨45, _⟩ => ⟨S4x2x16x8192x1, .i32⟩
  | .hbm, ⟨46, _⟩ => ⟨S4x2x16x8192, .i32⟩
  | .hbm, ⟨47, _⟩ => ⟨S4x2x16x8192, .i32⟩
  | .hbm, ⟨48, _⟩ => ⟨S4x2x16x8192, .i32⟩
  | .hbm, ⟨49, _⟩ => ⟨S4x2x16x8192, .i32⟩
  | .hbm, ⟨50, _⟩ => ⟨S4x2x16x128x64x64, .f32⟩
  | .hbm, ⟨51, _⟩ => ⟨S4x2x16x128x64x64, .f32⟩
  | .hbm, ⟨52, _⟩ => ⟨S4x2x16x128x64, .i32⟩
  | .hbm, ⟨53, _⟩ => ⟨S4x2x16x127x64x64, .f32⟩
  | .hbm, ⟨54, _⟩ => ⟨S_, .f32⟩
  | .hbm, ⟨55, _⟩ => ⟨S4x2x16x128x64x64, .f32⟩
  | .hbm, ⟨56, _⟩ => ⟨S4x2x16x128x128x64, .f32⟩
  | .hbm, ⟨57, _⟩ => ⟨S4x2x16x127x64x64, .f32⟩
  | .hbm, ⟨58, _⟩ => ⟨S_, .f32⟩
  | .hbm, ⟨59, _⟩ => ⟨S4x2x16x128x64x64, .f32⟩
  | .hbm, ⟨60, _⟩ => ⟨S4x2x16x128x128x64, .f32⟩
  | .hbm, ⟨61, _⟩ => ⟨S4x2x16x127x64, .i32⟩
  | .hbm, ⟨62, _⟩ => ⟨S_, .i32⟩
  | .hbm, ⟨63, _⟩ => ⟨S4x2x16x128x64, .i32⟩
  | .hbm, ⟨64, _⟩ => ⟨S4x2x16x128x128, .i32⟩
  | .hbm, ⟨65, _⟩ => ⟨S4x2x16x128x64x128, .f32⟩
  | .hbm, ⟨66, _⟩ => ⟨S_, .f32⟩
  | .hbm, ⟨67, _⟩ => ⟨S4x2x16x128x64x128, .f32⟩
  | .hbm, ⟨68, _⟩ => ⟨S4x2x16x128x64x128, .f32⟩
  | .hbm, ⟨69, _⟩ => ⟨S4x2x16x128x64x1, .i32⟩
  | .hbm, ⟨70, _⟩ => ⟨S4x2x16x128x1x128, .i32⟩
  | .hbm, ⟨71, _⟩ => ⟨S4x2x16x128x64x128, .i32⟩
  | .hbm, ⟨72, _⟩ => ⟨S4x2x16x128x64x128, .i32⟩
  | .hbm, ⟨73, _⟩ => ⟨S4x2x16x128x64x128, .i1⟩
  | .hbm, ⟨74, _⟩ => ⟨S_, .i32⟩
  | .hbm, ⟨75, _⟩ => ⟨S4x2x16x128x128, .i32⟩
  | .hbm, ⟨76, _⟩ => ⟨S4x2x16x128x128, .i1⟩
  | .hbm, ⟨77, _⟩ => ⟨S4x2x16x128x1x128, .i1⟩
  | .hbm, ⟨78, _⟩ => ⟨S4x2x16x128x64x128, .i1⟩
  | .hbm, ⟨79, _⟩ => ⟨S4x2x16x128x64x128, .i1⟩
  | .hbm, ⟨80, _⟩ => ⟨S4x2x16x128x64x128, .i32⟩
  | .hbm, ⟨81, _⟩ => ⟨S4x2x16x128x64x128, .i32⟩
  | .hbm, ⟨82, _⟩ => ⟨S_, .i32⟩
  | .hbm, ⟨83, _⟩ => ⟨S4x2x16x128x64x128, .i32⟩
  | .hbm, ⟨84, _⟩ => ⟨S4x2x16x128x64x128, .i32⟩
  | .hbm, ⟨85, _⟩ => ⟨S4x2x16x128x64x128, .i1⟩
  | .hbm, ⟨86, _⟩ => ⟨S4x2x16x128x64x128, .i1⟩
  | .hbm, ⟨87, _⟩ => ⟨S_, .f32⟩
  | .hbm, ⟨88, _⟩ => ⟨S4x2x16x128x64x128, .f32⟩
  | .hbm, ⟨89, _⟩ => ⟨S4x2x16x128x64x128, .f32⟩
  | .hbm, ⟨90, _⟩ => ⟨S_, .f32⟩
  | .hbm, ⟨91, _⟩ => ⟨S4x2x16x128x64, .f32⟩
  | .hbm, ⟨92, _⟩ => ⟨S_, .f32⟩
  | .hbm, ⟨93, _⟩ => ⟨S4x2x16x128x64, .f32⟩
  | .hbm, ⟨94, _⟩ => ⟨S4x2x16x128x64, .f32⟩
  | .hbm, ⟨95, _⟩ => ⟨S4x2x16x128x64x1, .f32⟩
  | .hbm, ⟨96, _⟩ => ⟨S4x2x16x128x64x128, .f32⟩
  | .hbm, ⟨97, _⟩ => ⟨S4x2x16x128x64x128, .f32⟩
  | .hbm, ⟨98, _⟩ => ⟨S4x2x16x128x64x128, .f32⟩
  | .hbm, ⟨99, _⟩ => ⟨S_, .f32⟩
  | .hbm, ⟨100, _⟩ => ⟨S4x2x16x128x64, .f32⟩
  | .hbm, ⟨101, _⟩ => ⟨S4x2x16x128x64x1, .f32⟩
  | .hbm, ⟨102, _⟩ => ⟨S4x2x16x128x64x128, .f32⟩
  | .hbm, ⟨103, _⟩ => ⟨S4x2x16x128x64x128, .f32⟩
  | .hbm, ⟨104, _⟩ => ⟨S_, .f32⟩
  | .hbm, ⟨105, _⟩ => ⟨S4x2x16x128x64x128, .f32⟩
  | .hbm, ⟨106, _⟩ => ⟨S4x2x16x128x64x128, .f32⟩
  | .hbm, ⟨107, _⟩ => ⟨S4x2x16x128x64x64, .f32⟩
  | .hbm, ⟨108, _⟩ => ⟨S4x2x16x8192x64, .f32⟩
  | .hbm, ⟨109, _⟩ => ⟨S4x2x16x8192x1, .i32⟩
  | .hbm, ⟨110, _⟩ => ⟨S4x2x16x8192x64, .f32⟩
  | .hbm, ⟨111, _⟩ => ⟨S_, .f32⟩
  | .hbm, ⟨112, _⟩ => ⟨S2x16x8192x64, .f32⟩
  | .hbm, ⟨113, _⟩ => ⟨S_, .f32⟩
  | .hbm, ⟨114, _⟩ => ⟨S2x16x8192x64, .f32⟩
  | .hbm, ⟨115, _⟩ => ⟨S2x16x8192x64, .f32⟩
  | .hbm, ⟨116, _⟩ => ⟨S2x8192x16x64, .f32⟩
  | .hbm, ⟨117, _⟩ => ⟨S2x8192x1024, .f32⟩
  | .hbm, ⟨118, _⟩ => ⟨S1024x1024, .f32⟩
  | .hbm, ⟨119, _⟩ => ⟨S2x8192x1024, .f32⟩
  | .hbm, ⟨120, _⟩ => ⟨S1x1x1024, .f32⟩
  | .hbm, ⟨121, _⟩ => ⟨S2x8192x1024, .f32⟩
  | .hbm, ⟨122, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_cst : Ref sig .tc := ⟨.hbm, 28, rfl⟩
abbrev main_call0_c : Ref sig .tc := ⟨.hbm, 29, rfl⟩
abbrev main_call0_v1_0 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call1_v0 : Ref sig .tc := ⟨.hbm, 38, rfl⟩
abbrev main_call1_v1_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call2_v0 : Ref sig .tc := ⟨.hbm, 47, rfl⟩
abbrev main_call2_v1_0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_1 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_2 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_3 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_4 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_5 : Ref sig .tc := ⟨.hbm, 87, rfl⟩
abbrev main_v64 : Ref sig .tc := ⟨.hbm, 88, rfl⟩
abbrev main_v65 : Ref sig .tc := ⟨.hbm, 89, rfl⟩
abbrev main_cst_6 : Ref sig .tc := ⟨.hbm, 90, rfl⟩
abbrev main_v66 : Ref sig .tc := ⟨.hbm, 91, rfl⟩
abbrev main_cst_7 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_8 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_9 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_10 : Ref sig .tc := ⟨.hbm, 111, rfl⟩
abbrev main_v83 : Ref sig .tc := ⟨.hbm, 112, rfl⟩
abbrev main_cst_11 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩

abbrev nD : Nat := 1
abbrev τ : Topo := Topo.v7x

variable {F : FTy → Type} [FloatOps F]
-- ==== Proof.RefOps.lean ====
module

public import Idealize.ShloMosaic.Lib.StableHlo.Run
public import proofs.«01_k».proof.Proof.Gen.ReferenceIdeal

/-!
# The reference's operations as lists

The reference is a host program.  Here each of its functions and its `main` are written as lists of
operations, so that a run of the program is a run of the list.
-/

@[expose] public section
noncomputable section
set_option maxRecDepth 16384

namespace Cert.Proof.Ref

open Cert.ReferenceIdeal Cert.ReferenceIdeal.Gen Idealize.ShloMosaic Idealize.ShloMosaic.TcCoe
open Idealize.ShloMosaic.StableHlo Idealize.SL.Sem

variable {F : FTy → Type} [FloatOps F]

/-- The index of the greatest entry along the last axis. -/
abbrev argmaxOps (arg0 : StableHlo.TRef sig ⟨S4x2x16x8192x64, .f32⟩) (φ : fn_argmax.Bufs) : List (HloOp τ sig (Elt F)) :=
  [StableHlo.TRef.nullary φ.v0 (iotaInDim S4x2x16x8192x64 32 4),
   StableHlo.TRef.nullary φ.cst (constant S_ .f32 0xFF800000#32),
   StableHlo.TRef.nullary φ.c (constantI S_ 32 0#32),
   StableHlo.TRef.quaternary arg0 φ.v0 φ.cst φ.c φ.v1_0 (fun x y u v j => (Host.argReduce reducer_argmax_f32_i32 x y u v reducesTo_S4x2x16x8192x64_S4x2x16x8192_d4 h_S_ j).1),
   StableHlo.TRef.quaternary arg0 φ.v0 φ.cst φ.c φ.v1_1 (fun x y u v j => (Host.argReduce reducer_argmax_f32_i32 x y u v reducesTo_S4x2x16x8192x64_S4x2x16x8192_d4 h_S_ j).2)]

/-- The positions that sort each row. -/
abbrev argsortOps (arg0 : StableHlo.TRef sig ⟨S4x2x16x8192, .i32⟩) (φ : fn_argsort.Bufs) : List (HloOp τ sig (Elt F)) :=
  [StableHlo.TRef.nullary φ.v0 (iotaInDim S4x2x16x8192 32 3),
   StableHlo.TRef.binary arg0 φ.v0 φ.v1_0 (fun x y => (Host.sort2 S4x2x16x8192 3 comparator_i32_i32_d3 x y).1),
   StableHlo.TRef.binary arg0 φ.v0 φ.v1_1 (fun x y => (Host.sort2 S4x2x16x8192 3 comparator_i32_i32_d3 x y).2)]

/-- The two projections, head by head. -/
abbrev preOps : List (HloOp τ sig (Elt F)) :=
  [StableHlo.unary main_arg1 main_v0 ((transpose S1024x1024 [1, 0] · transposes_S1024x1024_S1024x1024_1_0) : (⟨S1024x1024, .f32⟩ : BufTy).Contents (Elt F) → (⟨S1024x1024, .f32⟩ : BufTy).Contents (Elt F)),
   StableHlo.binary main_arg0 main_v0 main_v1 ((fun l r => Host.dotGeneral dot_S2x8192x1024_S1024x1024_S2x8192x1024_2_0_01_1_n_n none l r) : (⟨S2x8192x1024, .f32⟩ : BufTy).Contents (Elt F) → (⟨S1024x1024, .f32⟩ : BufTy).Contents (Elt F) → (⟨S2x8192x1024, .f32⟩ : BufTy).Contents (Elt F)),
   StableHlo.unary main_arg2 main_v2 (broadcastInDim S1x1x1024 ![2] bcast_S1024_S1x1x1024_2 : (⟨S1024, .f32⟩ : BufTy).Contents (Elt F) → (⟨S1x1x1024, .f32⟩ : BufTy).Contents (Elt F)),
   StableHlo.unary main_v2 main_v3 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
   StableHlo.binary main_v1 main_v3 main_v4 (addf : (⟨S2x8192x1024, .f32⟩ : BufTy).Contents (Elt F) → (⟨S2x8192x1024, .f32⟩ : BufTy).Contents (Elt F) → (⟨S2x8192x1024, .f32⟩ : BufTy).Contents (Elt F)),
   StableHlo.unary main_arg3 main_v5 ((transpose S1024x1024 [1, 0] · transposes_S1024x1024_S1024x1024_1_0) : (⟨S1024x1024, .f32⟩ : BufTy).Contents (Elt F) → (⟨S1024x1024, .f32⟩ : BufTy).Contents (Elt F)),
   StableHlo.binary main_arg0 main_v5 main_v6 ((fun l r => Host.dotGeneral dot_S2x8192x1024_S1024x1024_S2x8192x1024_2_0_01_1_n_n none l r) : (⟨S2x8192x1024, .f32⟩ : BufTy).Contents (Elt F) → (⟨S1024x1024, .f32⟩ : BufTy).Contents (Elt F) → (⟨S2x8192x1024, .f32⟩ : BufTy).Contents (Elt F)),
   StableHlo.unary main_arg4 main_v7 (broadcastInDim S1x1x1024 ![2] bcast_S1024_S1x1x1024_2 : (⟨S1024, .f32⟩ : BufTy).Contents (Elt F) → (⟨S1x1x1024, .f32⟩ : BufTy).Contents (Elt F)),
   StableHlo.unary main_v7 main_v8 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
   StableHlo.binary main_v6 main_v8 main_v9 (addf : (⟨S2x8192x1024, .f32⟩ : BufTy).Contents (Elt F) → (⟨S2x8192x1024, .f32⟩ : BufTy).Contents (Elt F) → (⟨S2x8192x1024, .f32⟩ : BufTy).Contents (Elt F)),
   StableHlo.reshape main_v4 main_v10 (rfl : (.f32 : EltTy) = .f32) shapeCasts_S2x8192x1024_S2x8192x16x64,
   StableHlo.unary main_v10 main_v11 ((transpose S2x16x8192x64 [0, 2, 1, 3] · transposes_S2x8192x16x64_S2x16x8192x64_0_2_1_3) : (⟨S2x8192x16x64, .f32⟩ : BufTy).Contents (Elt F) → (⟨S2x16x8192x64, .f32⟩ : BufTy).Contents (Elt F)),
   StableHlo.reshape main_v9 main_v12 (rfl : (.f32 : EltTy) = .f32) shapeCasts_S2x8192x1024_S2x8192x16x64,
   StableHlo.unary main_v12 main_v13 ((transpose S2x16x8192x64 [0, 2, 1, 3] · transposes_S2x8192x16x64_S2x16x8192x64_0_2_1_3) : (⟨S2x8192x16x64, .f32⟩ : BufTy).Contents (Elt F) → (⟨S2x16x8192x64, .f32⟩ : BufTy).Contents (Elt F))]

/-- The signed projections that name the buckets. -/
abbrev signOps : List (HloOp τ sig (Elt F)) :=
  [StableHlo.nullary main_v14 (iotaInDim S8192 32 0),
   StableHlo.binary main_arg7 main_v11 main_v15 ((fun l r => Host.dotGeneral dot_S4x16x64x32_S2x16x8192x64_S16x4x32x2x8192_2_3_03_02_1_1 none l r) : (⟨S4x16x64x32, .f32⟩ : BufTy).Contents (Elt F) → (⟨S2x16x8192x64, .f32⟩ : BufTy).Contents (Elt F) → (⟨S16x4x32x2x8192, .f32⟩ : BufTy).Contents (Elt F)),
   StableHlo.unary main_v15 main_v16 ((transpose S4x2x16x8192x32 [1, 3, 0, 4, 2] · transposes_S16x4x32x2x8192_S4x2x16x8192x32_1_3_0_4_2) : (⟨S16x4x32x2x8192, .f32⟩ : BufTy).Contents (Elt F) → (⟨S4x2x16x8192x32, .f32⟩ : BufTy).Contents (Elt F)),
   StableHlo.unary main_v16 main_v17 (Host.negf : (⟨S4x2x16x8192x32, .f32⟩ : BufTy).Contents (Elt F) → (⟨S4x2x16x8192x32, .f32⟩ : BufTy).Contents (Elt F)),
   StableHlo.binary main_v16 main_v17 main_v18 ((fun a b => concatenate S4x2x16x8192x64 4 [⟨S4x2x16x8192x32, a⟩, ⟨S4x2x16x8192x32, b⟩] concatenates_S4x2x16x8192x32_S4x2x16x8192x32_S4x2x16x8192x64_d4) : (⟨S4x2x16x8192x32, .f32⟩ : BufTy).Contents (Elt F) → (⟨S4x2x16x8192x32, .f32⟩ : BufTy).Contents (Elt F) → (⟨S4x2x16x8192x64, .f32⟩ : BufTy).Contents (Elt F))]

/-- The words to sort by. -/
abbrev keyOps : List (HloOp τ sig (Elt F)) :=
  [StableHlo.nullary main_c (constantI S_ 32 8192#32),
   StableHlo.unary main_c main_v20 (broadcastInDim S4x2x16x8192 ![] bcast_S_S4x2x16x8192 : (⟨S_, .i32⟩ : BufTy).Contents (Elt F) → (⟨S4x2x16x8192, .i32⟩ : BufTy).Contents (Elt F)),
   StableHlo.binary main_v19 main_v20 main_v21 (muli : (⟨S4x2x16x8192, .i32⟩ : BufTy).Contents (Elt F) → (⟨S4x2x16x8192, .i32⟩ : BufTy).Contents (Elt F) → (⟨S4x2x16x8192, .i32⟩ : BufTy).Contents (Elt F)),
   StableHlo.unary main_v14 main_v22 (broadcastInDim S1x1x1x8192 ![3] bcast_S8192_S1x1x1x8192_3 : (⟨S8192, .i32⟩ : BufTy).Contents (Elt F) → (⟨S1x1x1x8192, .i32⟩ : BufTy).Contents (Elt F)),
   StableHlo.unary main_v22 main_v23 (broadcastInDim S4x2x16x8192 ![0, 1, 2, 3] bcast_S1x1x1x8192_S4x2x16x8192_0_1_2_3 : (⟨S1x1x1x8192, .i32⟩ : BufTy).Contents (Elt F) → (⟨S4x2x16x8192, .i32⟩ : BufTy).Contents (Elt F)),
   StableHlo.binary main_v21 main_v23 main_v24 (addi : (⟨S4x2x16x8192, .i32⟩ : BufTy).Contents (Elt F) → (⟨S4x2x16x8192, .i32⟩ : BufTy).Contents (Elt F) → (⟨S4x2x16x8192, .i32⟩ : BufTy).Contents (Elt F))]

/-- The bucket of every row and the order by bucket and position, for every round. -/
abbrev hashOps : List (HloOp τ sig (Elt F)) :=
  signOps ++ argmaxOps (.of main_v18) main_call0 ++ keyOps ++ argsortOps (.of main_v24) main_call1

/-- The rows, the values and the buckets in sorted order, and the way back. -/
abbrev gathOps : List (HloOp τ sig (Elt F)) :=
  [StableHlo.unary main_v25 main_v26 (broadcastInDim S4x2x16x8192x1 ![0, 1, 2, 3] bcast_S4x2x16x8192_S4x2x16x8192x1_0_1_2_3 : (⟨S4x2x16x8192, .i32⟩ : BufTy).Contents (Elt F) → (⟨S4x2x16x8192x1, .i32⟩ : BufTy).Contents (Elt F)),
   StableHlo.binary main_v11 main_v26 main_v27 ((fun x i => Host.gather gather_S2x16x8192x64_S4x2x16x8192x1_S4x2x16x8192x64_4_2_01_12_2_4_11164 x i) : (⟨S2x16x8192x64, .f32⟩ : BufTy).Contents (Elt F) → (⟨S4x2x16x8192x1, .i32⟩ : BufTy).Contents (Elt F) → (⟨S4x2x16x8192x64, .f32⟩ : BufTy).Contents (Elt F)),
   StableHlo.unary main_v25 main_v28 (broadcastInDim S4x2x16x8192x1 ![0, 1, 2, 3] bcast_S4x2x16x8192_S4x2x16x8192x1_0_1_2_3 : (⟨S4x2x16x8192, .i32⟩ : BufTy).Contents (Elt F) → (⟨S4x2x16x8192x1, .i32⟩ : BufTy).Contents (Elt F)),
   StableHlo.binary main_v13 main_v28 main_v29 ((fun x i => Host.gather gather_S2x16x8192x64_S4x2x16x8192x1_S4x2x16x8192x64_4_2_01_12_2_4_11164 x i) : (⟨S2x16x8192x64, .f32⟩ : BufTy).Contents (Elt F) → (⟨S4x2x16x8192x1, .i32⟩ : BufTy).Contents (Elt F) → (⟨S4x2x16x8192x64, .f32⟩ : BufTy).Contents (Elt F)),
   StableHlo.unary main_v25 main_v30 (broadcastInDim S4x2x16x8192x1 ![0, 1, 2, 3] bcast_S4x2x16x8192_S4x2x16x8192x1_0_1_2_3 : (⟨S4x2x16x8192, .i32⟩ : BufTy).Contents (Elt F) → (⟨S4x2x16x8192x1, .i32⟩ : BufTy).Contents (Elt F)),
   StableHlo.binary main_v19 main_v30 main_v31 ((fun x i => Host.gather gather_S4x2x16x8192_S4x2x16x8192x1_S4x2x16x8192_n_3_012_012_3_4_1111 x i) : (⟨S4x2x16x8192, .i32⟩ : BufTy).Contents (Elt F) → (⟨S4x2x16x8192x1, .i32⟩ : BufTy).Contents (Elt F) → (⟨S4x2x16x8192, .i32⟩ : BufTy).Contents (Elt F))] ++
  argsortOps (.of main_v25) main_call2

/-- The sorted rows cut into chunks, each beside its predecessor. -/
abbrev chunkOps : List (HloOp τ sig (Elt F)) :=
  [StableHlo.reshape main_v27 main_v33 (rfl : (.f32 : EltTy) = .f32) shapeCasts_S4x2x16x8192x64_S4x2x16x128x64x64,
   StableHlo.reshape main_v29 main_v34 (rfl : (.f32 : EltTy) = .f32) shapeCasts_S4x2x16x8192x64_S4x2x16x128x64x64,
   StableHlo.reshape main_v31 main_v35 (rfl : (.i32 : EltTy) = .i32) shapeCasts_S4x2x16x8192_S4x2x16x128x64,
   StableHlo.unary main_v33 main_v36 ((extractStridedSlice S4x2x16x127x64x64 ![0, 0, 0, 0, 0, 0] · slices_S4x2x16x128x64x64_S4x2x16x127x64x64_0_0_0_0_0_0) : (⟨S4x2x16x128x64x64, .f32⟩ : BufTy).Contents (Elt F) → (⟨S4x2x16x127x64x64, .f32⟩ : BufTy).Contents (Elt F)),
   StableHlo.nullary main_cst (constant S_ .f32 0x00000000#32),
   StableHlo.binary main_v36 main_cst main_v37 ((fun x v => pad S4x2x16x128x64x64 ![0, 0, 0, 1, 0, 0] ![0, 0, 0, 0, 0, 0] ![0, 0, 0, 0, 0, 0] x v pads_S4x2x16x127x64x64_S4x2x16x128x64x64_000_000_000_100_000_000 h_S_) : (⟨S4x2x16x127x64x64, .f32⟩ : BufTy).Contents (Elt F) → (⟨S_, .f32⟩ : BufTy).Contents (Elt F) → (⟨S4x2x16x128x64x64, .f32⟩ : BufTy).Contents (Elt F)),
   StableHlo.binary main_v37 main_v33 main_v38 ((fun a b => concatenate S4x2x16x128x128x64 4 [⟨S4x2x16x128x64x64, a⟩, ⟨S4x2x16x128x64x64, b⟩] concatenates_S4x2x16x128x64x64_S4x2x16x128x64x64_S4x2x16x128x128x64_d4) : (⟨S4x2x16x128x64x64, .f32⟩ : BufTy).Contents (Elt F) → (⟨S4x2x16x128x64x64, .f32⟩ : BufTy).Contents (Elt F) → (⟨S4x2x16x128x128x64, .f32⟩ : BufTy).Contents (Elt F)),
   StableHlo.unary main_v34 main_v39 ((extractStridedSlice S4x2x16x127x64x64 ![0, 0, 0, 0, 0, 0] · slices_S4x2x16x128x64x64_S4x2x16x127x64x64_0_0_0_0_0_0) : (⟨S4x2x16x128x64x64, .f32⟩ : BufTy).Contents (Elt F) → (⟨S4x2x16x127x64x64, .f32⟩ : BufTy).Contents (Elt F)),
   StableHlo.nullary main_cst_0 (constant S_ .f32 0x00000000#32),
   StableHlo.binary main_v39 main_cst_0 main_v40 ((fun x v => pad S4x2x16x128x64x64 ![0, 0, 0, 1, 0, 0] ![0, 0, 0, 0, 0, 0] ![0, 0, 0, 0, 0, 0] x v pads_S4x2x16x127x64x64_S4x2x16x128x64x64_000_000_000_100_000_000 h_S_) : (⟨S4x2x16x127x64x64, .f32⟩ : BufTy).Contents (Elt F) → (⟨S_, .f32⟩ : BufTy).Contents (Elt F) → (⟨S4x2x16x128x64x64, .f32⟩ : BufTy).Contents (Elt F)),
   StableHlo.binary main_v40 main_v34 main_v41 ((fun a b => concatenate S4x2x16x128x128x64 4 [⟨S4x2x16x128x64x64, a⟩, ⟨S4x2x16x128x64x64, b⟩] concatenates_S4x2x16x128x64x64_S4x2x16x128x64x64_S4x2x16x128x128x64_d4) : (⟨S4x2x16x128x64x64, .f32⟩ : BufTy).Contents (Elt F) → (⟨S4x2x16x128x64x64, .f32⟩ : BufTy).Contents (Elt F) → (⟨S4x2x16x128x128x64, .f32⟩ : BufTy).Contents (Elt F)),
   StableHlo.unary main_v35 main_v42 ((extractStridedSlice S4x2x16x127x64 ![0, 0, 0, 0, 0] · slices_S4x2x16x128x64_S4x2x16x127x64_0_0_0_0_0) : (⟨S4x2x16x128x64, .i32⟩ : BufTy).Contents (Elt F) → (⟨S4x2x16x127x64, .i32⟩ : BufTy).Contents (Elt F)),
   StableHlo.nullary main_c_1 (constantI S_ 32 4294967295#32),
   StableHlo.binary main_v42 main_c_1 main_v43 ((fun x v => pad S4x2x16x128x64 ![0, 0, 0, 1, 0] ![0, 0, 0, 0, 0] ![0, 0, 0, 0, 0] x v pads_S4x2x16x127x64_S4x2x16x128x64_000_000_000_100_000 h_S_) : (⟨S4x2x16x127x64, .i32⟩ : BufTy).Contents (Elt F) → (⟨S_, .i32⟩ : BufTy).Contents (Elt F) → (⟨S4x2x16x128x64, .i32⟩ : BufTy).Contents (Elt F)),
   StableHlo.binary main_v43 main_v35 main_v44 ((fun a b => concatenate S4x2x16x128x128 4 [⟨S4x2x16x128x64, a⟩, ⟨S4x2x16x128x64, b⟩] concatenates_S4x2x16x128x64_S4x2x16x128x64_S4x2x16x128x128_d4) : (⟨S4x2x16x128x64, .i32⟩ : BufTy).Contents (Elt F) → (⟨S4x2x16x128x64, .i32⟩ : BufTy).Contents (Elt F) → (⟨S4x2x16x128x128, .i32⟩ : BufTy).Contents (Elt F))]

/-- The scores of the queries against the keys, and where the buckets differ. -/
abbrev scoreOps : List (HloOp τ sig (Elt F)) :=
  [StableHlo.binary main_v33 main_v38 main_v45 ((fun l r => Host.dotGeneral dot_S4x2x16x128x64x64_S4x2x16x128x128x64_S4x2x16x128x64x128_5_5_4_4_0123_0123 none l r) : (⟨S4x2x16x128x64x64, .f32⟩ : BufTy).Contents (Elt F) → (⟨S4x2x16x128x128x64, .f32⟩ : BufTy).Contents (Elt F) → (⟨S4x2x16x128x64x128, .f32⟩ : BufTy).Contents (Elt F)),
   StableHlo.nullary main_cst_2 (constant S_ .f32 0x41000000#32),
   StableHlo.unary main_cst_2 main_v46 (broadcastInDim S4x2x16x128x64x128 ![] bcast_S_S4x2x16x128x64x128 : (⟨S_, .f32⟩ : BufTy).Contents (Elt F) → (⟨S4x2x16x128x64x128, .f32⟩ : BufTy).Contents (Elt F)),
   StableHlo.binary main_v45 main_v46 main_v47 (Host.divf : (⟨S4x2x16x128x64x128, .f32⟩ : BufTy).Contents (Elt F) → (⟨S4x2x16x128x64x128, .f32⟩ : BufTy).Contents (Elt F) → (⟨S4x2x16x128x64x128, .f32⟩ : BufTy).Contents (Elt F)),
   StableHlo.unary main_v35 main_v48 (broadcastInDim S4x2x16x128x64x1 ![0, 1, 2, 3, 4] bcast_S4x2x16x128x64_S4x2x16x128x64x1_0_1_2_3_4 : (⟨S4x2x16x128x64, .i32⟩ : BufTy).Contents (Elt F) → (⟨S4x2x16x128x64x1, .i32⟩ : BufTy).Contents (Elt F)),
   StableHlo.unary main_v44 main_v49 (broadcastInDim S4x2x16x128x1x128 ![0, 1, 2, 3, 5] bcast_S4x2x16x128x128_S4x2x16x128x1x128_0_1_2_3_5 : (⟨S4x2x16x128x128, .i32⟩ : BufTy).Contents (Elt F) → (⟨S4x2x16x128x1x128, .i32⟩ : BufTy).Contents (Elt F)),
   StableHlo.unary main_v48 main_v50 (broadcastInDim S4x2x16x128x64x128 ![0, 1, 2, 3, 4, 5] bcast_S4x2x16x128x64x1_S4x2x16x128x64x128_0_1_2_3_4_5 : (⟨S4x2x16x128x64x1, .i32⟩ : BufTy).Contents (Elt F) → (⟨S4x2x16x128x64x128, .i32⟩ : BufTy).Contents (Elt F)),
   StableHlo.unary main_v49 main_v51 (broadcastInDim S4x2x16x128x64x128 ![0, 1, 2, 3, 4, 5] bcast_S4x2x16x128x1x128_S4x2x16x128x64x128_0_1_2_3_4_5 : (⟨S4x2x16x128x1x128, .i32⟩ : BufTy).Contents (Elt F) → (⟨S4x2x16x128x64x128, .i32⟩ : BufTy).Contents (Elt F)),
   StableHlo.binary main_v50 main_v51 main_v52 (cmpi .ne : (⟨S4x2x16x128x64x128, .i32⟩ : BufTy).Contents (Elt F) → (⟨S4x2x16x128x64x128, .i32⟩ : BufTy).Contents (Elt F) → (⟨S4x2x16x128x64x128, .i1⟩ : BufTy).Contents (Elt F)),
   StableHlo.nullary main_c_3 (constantI S_ 32 4294967295#32),
   StableHlo.unary main_c_3 main_v53 (broadcastInDim S4x2x16x128x128 ![] bcast_S_S4x2x16x128x128 : (⟨S_, .i32⟩ : BufTy).Contents (Elt F) → (⟨S4x2x16x128x128, .i32⟩ : BufTy).Contents (Elt F))]

/-- The mask, and the masked scores. -/
abbrev maskOps : List (HloOp τ sig (Elt F)) :=
  [StableHlo.binary main_v44 main_v53 main_v54 (cmpi .eq : (⟨S4x2x16x128x128, .i32⟩ : BufTy).Contents (Elt F) → (⟨S4x2x16x128x128, .i32⟩ : BufTy).Contents (Elt F) → (⟨S4x2x16x128x128, .i1⟩ : BufTy).Contents (Elt F)),
   StableHlo.unary main_v54 main_v55 (broadcastInDim S4x2x16x128x1x128 ![0, 1, 2, 3, 5] bcast_S4x2x16x128x128_S4x2x16x128x1x128_0_1_2_3_5 : (⟨S4x2x16x128x128, .i1⟩ : BufTy).Contents (Elt F) → (⟨S4x2x16x128x1x128, .i1⟩ : BufTy).Contents (Elt F)),
   StableHlo.unary main_v55 main_v56 (broadcastInDim S4x2x16x128x64x128 ![0, 1, 2, 3, 4, 5] bcast_S4x2x16x128x1x128_S4x2x16x128x64x128_0_1_2_3_4_5 : (⟨S4x2x16x128x1x128, .i1⟩ : BufTy).Contents (Elt F) → (⟨S4x2x16x128x64x128, .i1⟩ : BufTy).Contents (Elt F)),
   StableHlo.binary main_v52 main_v56 main_v57 (ori : (⟨S4x2x16x128x64x128, .i1⟩ : BufTy).Contents (Elt F) → (⟨S4x2x16x128x64x128, .i1⟩ : BufTy).Contents (Elt F) → (⟨S4x2x16x128x64x128, .i1⟩ : BufTy).Contents (Elt F)),
   StableHlo.nullary main_v58 (iotaInDim S4x2x16x128x64x128 32 4),
   StableHlo.nullary main_v59 (iotaInDim S4x2x16x128x64x128 32 5),
   StableHlo.nullary main_c_4 (constantI S_ 32 64#32),
   StableHlo.unary main_c_4 main_v60 (broadcastInDim S4x2x16x128x64x128 ![] bcast_S_S4x2x16x128x64x128 : (⟨S_, .i32⟩ : BufTy).Contents (Elt F) → (⟨S4x2x16x128x64x128, .i32⟩ : BufTy).Contents (Elt F)),
   StableHlo.binary main_v58 main_v60 main_v61 (addi : (⟨S4x2x16x128x64x128, .i32⟩ : BufTy).Contents (Elt F) → (⟨S4x2x16x128x64x128, .i32⟩ : BufTy).Contents (Elt F) → (⟨S4x2x16x128x64x128, .i32⟩ : BufTy).Contents (Elt F)),
   StableHlo.binary main_v59 main_v61 main_v62 (cmpi .sgt : (⟨S4x2x16x128x64x128, .i32⟩ : BufTy).Contents (Elt F) → (⟨S4x2x16x128x64x128, .i32⟩ : BufTy).Contents (Elt F) → (⟨S4x2x16x128x64x128, .i1⟩ : BufTy).Contents (Elt F)),
   StableHlo.binary main_v57 main_v62 main_v63 (ori : (⟨S4x2x16x128x64x128, .i1⟩ : BufTy).Contents (Elt F) → (⟨S4x2x16x128x64x128, .i1⟩ : BufTy).Contents (Elt F) → (⟨S4x2x16x128x64x128, .i1⟩ : BufTy).Contents (Elt F)),
   StableHlo.nullary main_cst_5 (constant S_ .f32 0xFF800000#32),
   StableHlo.unary main_cst_5 main_v64 (broadcastInDim S4x2x16x128x64x128 ![] bcast_S_S4x2x16x128x64x128 : (⟨S_, .f32⟩ : BufTy).Contents (Elt F) → (⟨S4x2x16x128x64x128, .f32⟩ : BufTy).Contents (Elt F)),
   StableHlo.ternary main_v63 main_v64 main_v47 main_v65 (select : (⟨S4x2x16x128x64x128, .i1⟩ : BufTy).Contents (Elt F) → (⟨S4x2x16x128x64x128, .f32⟩ : BufTy).Contents (Elt F) → (⟨S4x2x16x128x64x128, .f32⟩ : BufTy).Contents (Elt F) → (⟨S4x2x16x128x64x128, .f32⟩ : BufTy).Contents (Elt F))]

/-- The greatest scores. -/
abbrev softMaxOps : List (HloOp τ sig (Elt F)) :=
  [StableHlo.nullary main_cst_6 (constant S_ .f32 0xFF800000#32),
   StableHlo.binary main_v65 main_cst_6 main_v66 ((fun x v => Host.reduce FloatOps.maximumf x v reducesTo_S4x2x16x128x64x128_S4x2x16x128x64_d5 h_S_) : (⟨S4x2x16x128x64x128, .f32⟩ : BufTy).Contents (Elt F) → (⟨S_, .f32⟩ : BufTy).Contents (Elt F) → (⟨S4x2x16x128x64, .f32⟩ : BufTy).Contents (Elt F))]

/-- The exponentials. -/
abbrev softExpOps : List (HloOp τ sig (Elt F)) :=
  [StableHlo.nullary main_cst_7 (constant S_ .f32 0xFF800000#32),
   StableHlo.unary main_cst_7 main_v67 (broadcastInDim S4x2x16x128x64 ![] bcast_S_S4x2x16x128x64 : (⟨S_, .f32⟩ : BufTy).Contents (Elt F) → (⟨S4x2x16x128x64, .f32⟩ : BufTy).Contents (Elt F)),
   StableHlo.binary main_v67 main_v66 main_v68 (maximumf : (⟨S4x2x16x128x64, .f32⟩ : BufTy).Contents (Elt F) → (⟨S4x2x16x128x64, .f32⟩ : BufTy).Contents (Elt F) → (⟨S4x2x16x128x64, .f32⟩ : BufTy).Contents (Elt F)),
   StableHlo.unary main_v68 main_v69 (broadcastInDim S4x2x16x128x64x1 ![0, 1, 2, 3, 4] bcast_S4x2x16x128x64_S4x2x16x128x64x1_0_1_2_3_4 : (⟨S4x2x16x128x64, .f32⟩ : BufTy).Contents (Elt F) → (⟨S4x2x16x128x64x1, .f32⟩ : BufTy).Contents (Elt F)),
   StableHlo.unary main_v69 main_v70 (broadcastInDim S4x2x16x128x64x128 ![0, 1, 2, 3, 4, 5] bcast_S4x2x16x128x64x1_S4x2x16x128x64x128_0_1_2_3_4_5 : (⟨S4x2x16x128x64x1, .f32⟩ : BufTy).Contents (Elt F) → (⟨S4x2x16x128x64x128, .f32⟩ : BufTy).Contents (Elt F)),
   StableHlo.binary main_v65 main_v70 main_v71 (subf : (⟨S4x2x16x128x64x128, .f32⟩ : BufTy).Contents (Elt F) → (⟨S4x2x16x128x64x128, .f32⟩ : BufTy).Contents (Elt F) → (⟨S4x2x16x128x64x128, .f32⟩ : BufTy).Contents (Elt F)),
   StableHlo.unary main_v71 main_v72 (Host.exp : (⟨S4x2x16x128x64x128, .f32⟩ : BufTy).Contents (Elt F) → (⟨S4x2x16x128x64x128, .f32⟩ : BufTy).Contents (Elt F))]

/-- Their sums. -/
abbrev softSumOps : List (HloOp τ sig (Elt F)) :=
  [StableHlo.nullary main_cst_8 (constant S_ .f32 0x00000000#32),
   StableHlo.binary main_v72 main_cst_8 main_v73 ((fun x v => Host.reduceAdd x v reducesTo_S4x2x16x128x64x128_S4x2x16x128x64_d5 h_S_) : (⟨S4x2x16x128x64x128, .f32⟩ : BufTy).Contents (Elt F) → (⟨S_, .f32⟩ : BufTy).Contents (Elt F) → (⟨S4x2x16x128x64, .f32⟩ : BufTy).Contents (Elt F))]

/-- The weighted sums of the values. -/
abbrev softDotOps : List (HloOp τ sig (Elt F)) :=
  [StableHlo.unary main_v73 main_v74 (broadcastInDim S4x2x16x128x64x1 ![0, 1, 2, 3, 4] bcast_S4x2x16x128x64_S4x2x16x128x64x1_0_1_2_3_4 : (⟨S4x2x16x128x64, .f32⟩ : BufTy).Contents (Elt F) → (⟨S4x2x16x128x64x1, .f32⟩ : BufTy).Contents (Elt F)),
   StableHlo.unary main_v74 main_v75 (broadcastInDim S4x2x16x128x64x128 ![0, 1, 2, 3, 4, 5] bcast_S4x2x16x128x64x1_S4x2x16x128x64x128_0_1_2_3_4_5 : (⟨S4x2x16x128x64x1, .f32⟩ : BufTy).Contents (Elt F) → (⟨S4x2x16x128x64x128, .f32⟩ : BufTy).Contents (Elt F)),
   StableHlo.binary main_v72 main_v75 main_v76 (Host.divf : (⟨S4x2x16x128x64x128, .f32⟩ : BufTy).Contents (Elt F) → (⟨S4x2x16x128x64x128, .f32⟩ : BufTy).Contents (Elt F) → (⟨S4x2x16x128x64x128, .f32⟩ : BufTy).Contents (Elt F)),
   StableHlo.nullary main_cst_9 (constant S_ .f32 0x00000000#32),
   StableHlo.unary main_cst_9 main_v77 (broadcastInDim S4x2x16x128x64x128 ![] bcast_S_S4x2x16x128x64x128 : (⟨S_, .f32⟩ : BufTy).Contents (Elt F) → (⟨S4x2x16x128x64x128, .f32⟩ : BufTy).Contents (Elt F)),
   StableHlo.ternary main_v63 main_v77 main_v76 main_v78 (select : (⟨S4x2x16x128x64x128, .i1⟩ : BufTy).Contents (Elt F) → (⟨S4x2x16x128x64x128, .f32⟩ : BufTy).Contents (Elt F) → (⟨S4x2x16x128x64x128, .f32⟩ : BufTy).Contents (Elt F) → (⟨S4x2x16x128x64x128, .f32⟩ : BufTy).Contents (Elt F)),
   StableHlo.binary main_v78 main_v41 main_v79 ((fun l r => Host.dotGeneral dot_S4x2x16x128x64x128_S4x2x16x128x128x64_S4x2x16x128x64x64_5_4_4_5_0123_0123 none l r) : (⟨S4x2x16x128x64x128, .f32⟩ : BufTy).Contents (Elt F) → (⟨S4x2x16x128x128x64, .f32⟩ : BufTy).Contents (Elt F) → (⟨S4x2x16x128x64x64, .f32⟩ : BufTy).Contents (Elt F)),
   StableHlo.reshape main_v79 main_v80 (rfl : (.f32 : EltTy) = .f32) shapeCasts_S4x2x16x128x64x64_S4x2x16x8192x64]

/-- The normalised weights and the weighted sums of the values. -/
abbrev softOps : List (HloOp τ sig (Elt F)) := softMaxOps ++ softExpOps ++ softSumOps ++ softDotOps

/-- The sums put back in the order of the rows and added up over the rounds. -/
abbrev backOps : List (HloOp τ sig (Elt F)) :=
  [StableHlo.unary main_v32 main_v81 (broadcastInDim S4x2x16x8192x1 ![0, 1, 2, 3] bcast_S4x2x16x8192_S4x2x16x8192x1_0_1_2_3 : (⟨S4x2x16x8192, .i32⟩ : BufTy).Contents (Elt F) → (⟨S4x2x16x8192x1, .i32⟩ : BufTy).Contents (Elt F)),
   StableHlo.binary main_v80 main_v81 main_v82 ((fun x i => Host.gather gather_S4x2x16x8192x64_S4x2x16x8192x1_S4x2x16x8192x64_4_3_012_012_3_4_111164 x i) : (⟨S4x2x16x8192x64, .f32⟩ : BufTy).Contents (Elt F) → (⟨S4x2x16x8192x1, .i32⟩ : BufTy).Contents (Elt F) → (⟨S4x2x16x8192x64, .f32⟩ : BufTy).Contents (Elt F)),
   StableHlo.nullary main_cst_10 (constant S_ .f32 0x00000000#32),
   StableHlo.binary main_v82 main_cst_10 main_v83 ((fun x v => Host.reduceAdd x v reducesTo_S4x2x16x8192x64_S2x16x8192x64_d0 h_S_) : (⟨S4x2x16x8192x64, .f32⟩ : BufTy).Contents (Elt F) → (⟨S_, .f32⟩ : BufTy).Contents (Elt F) → (⟨S2x16x8192x64, .f32⟩ : BufTy).Contents (Elt F))]

/-- The mean of the rounds and the output projection. -/
abbrev postOps : List (HloOp τ sig (Elt F)) :=
  [StableHlo.nullary main_cst_11 (constant S_ .f32 0x40800000#32),
   StableHlo.unary main_cst_11 main_v84 (broadcastInDim S2x16x8192x64 ![] bcast_S_S2x16x8192x64 : (⟨S_, .f32⟩ : BufTy).Contents (Elt F) → (⟨S2x16x8192x64, .f32⟩ : BufTy).Contents (Elt F)),
   StableHlo.binary main_v83 main_v84 main_v85 (Host.divf : (⟨S2x16x8192x64, .f32⟩ : BufTy).Contents (Elt F) → (⟨S2x16x8192x64, .f32⟩ : BufTy).Contents (Elt F) → (⟨S2x16x8192x64, .f32⟩ : BufTy).Contents (Elt F)),
   StableHlo.unary main_v85 main_v86 ((transpose S2x8192x16x64 [0, 2, 1, 3] · transposes_S2x16x8192x64_S2x8192x16x64_0_2_1_3) : (⟨S2x16x8192x64, .f32⟩ : BufTy).Contents (Elt F) → (⟨S2x8192x16x64, .f32⟩ : BufTy).Contents (Elt F)),
   StableHlo.reshape main_v86 main_v87 (rfl : (.f32 : EltTy) = .f32) shapeCasts_S2x8192x16x64_S2x8192x1024,
   StableHlo.unary main_arg5 main_v88 ((transpose S1024x1024 [1, 0] · transposes_S1024x1024_S1024x1024_1_0) : (⟨S1024x1024, .f32⟩ : BufTy).Contents (Elt F) → (⟨S1024x1024, .f32⟩ : BufTy).Contents (Elt F)),
   StableHlo.binary main_v87 main_v88 main_v89 ((fun l r => Host.dotGeneral dot_S2x8192x1024_S1024x1024_S2x8192x1024_2_0_01_1_n_n none l r) : (⟨S2x8192x1024, .f32⟩ : BufTy).Contents (Elt F) → (⟨S1024x1024, .f32⟩ : BufTy).Contents (Elt F) → (⟨S2x8192x1024, .f32⟩ : BufTy).Contents (Elt F)),
   StableHlo.unary main_arg6 main_v90 (broadcastInDim S1x1x1024 ![2] bcast_S1024_S1x1x1024_2 : (⟨S1024, .f32⟩ : BufTy).Contents (Elt F) → (⟨S1x1x1024, .f32⟩ : BufTy).Contents (Elt F)),
   StableHlo.unary main_v90 main_v91 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
   StableHlo.binary main_v89 main_v91 main_v92 (addf : (⟨S2x8192x1024, .f32⟩ : BufTy).Contents (Elt F) → (⟨S2x8192x1024, .f32⟩ : BufTy).Contents (Elt F) → (⟨S2x8192x1024, .f32⟩ : BufTy).Contents (Elt F))]

/-- The operations of the first part of the program. -/
abbrev partOps0 : List (HloOp τ sig (Elt F)) :=
  preOps ++ (hashOps ++ (gathOps ++ (chunkOps ++ scoreOps)))

/-- The operations of the second part of the program. -/
abbrev partOps1 : List (HloOp τ sig (Elt F)) :=
  maskOps ++ (softOps ++ (backOps ++ postOps))

end Cert.Proof.Ref
-- ==== Proof.RefRun.lean ====
module

public import proofs.«01_k».proof.Proof.RefOps

/-!
# The reference's run

The reference's `main` is the run of its list of operations.
-/

@[expose] public section
noncomputable section
set_option maxRecDepth 65536
set_option maxHeartbeats 4000000

namespace Cert.Proof.Ref

open Cert.ReferenceIdeal Cert.ReferenceIdeal.Gen Idealize.ShloMosaic Idealize.ShloMosaic.TcCoe
open Idealize.ShloMosaic.StableHlo Idealize.SL.Sem

variable {F : FTy → Type} [FloatOps F]

/-- The first part of the program runs its operations. -/
theorem part0_eq (c : Dev nD) : main_part0 (F := F) c = seq partOps0 := rfl

/-- The second part of the program runs its operations. -/
theorem part1_eq (c : Dev nD) : main_part1 (F := F) c = seq partOps1 := rfl

/-- The program runs its operations. -/
theorem main_eq (c : Dev nD) : main (F := F) c = seq (partOps0 ++ partOps1) := by
  rw [seq_append, ← part0_eq c, ← part1_eq c]
  rfl

/-- Nothing is scoped on this signature. -/
theorem scopedRefs_eq : (Finset.univ.filter fun b : Ref sig .tc => b.isScoped) = ∅ := by decide
/-- No semaphore is scoped either. -/
theorem scopedSems_eq : (Finset.univ.filter fun sm : SemLoc sig => sm.isScoped .tc) = ∅ := by decide

/-- Every operation touches TensorCore references only. -/
theorem ops_sub : (partOps0 ++ partOps1 : List (HloOp τ sig (Elt F))).Forall fun op => op.bufs ⊆ tcRefs τ sig := by
  simp only [partOps0, partOps1, List.forall_append]
  simp [List.Forall]

end Cert.Proof.Ref
-- ==== Proof.RefFrame.lean ====
module

public import proofs.«01_k».proof.Proof.RefRun
public import Idealize.ShloMosaic.Lib.StableHlo.RunRead

/-!
# The reference's run, at its result and its arguments

The result is what the operations leave in its buffer; the arguments keep what they held.
-/

@[expose] public section
noncomputable section
set_option maxRecDepth 65536
set_option maxHeartbeats 4000000

namespace Cert.Proof.Ref

open Cert.ReferenceIdeal Cert.ReferenceIdeal.Gen Idealize.ShloMosaic Idealize.ShloMosaic.TcCoe
open Idealize.ShloMosaic.StableHlo Idealize.SL.Sem

variable {F : FTy → Type} [FloatOps F]

/-- What the projections write. -/
abbrev preW : List (Ref sig .tc) := [main_v0, main_v1, main_v2, main_v3, main_v4, main_v5, main_v6, main_v7, main_v8, main_v9,
  main_v10, main_v11, main_v12, main_v13]
/-- What the hashing writes. -/
abbrev hashW : List (Ref sig .tc) := [main_v14, main_v15, main_v16, main_v17, main_v18, main_call0_v0, main_call0_cst,
  main_call0_c, main_call0_v1_0, main_v19, main_c, main_v20, main_v21, main_v22, main_v23, main_v24, main_call1_v0,
  main_call1_v1_0, main_v25]
/-- What the gathers write. -/
abbrev gathW : List (Ref sig .tc) := [main_v26, main_v27, main_v28, main_v29, main_v30, main_v31, main_call2_v0,
  main_call2_v1_0, main_v32]
/-- What the cutting into chunks writes. -/
abbrev chunkW : List (Ref sig .tc) := [main_v33, main_v34, main_v35, main_v36, main_cst, main_v37, main_v38, main_v39,
  main_cst_0, main_v40, main_v41, main_v42, main_c_1, main_v43, main_v44]
/-- What the scores write. -/
abbrev scoreW : List (Ref sig .tc) := [main_v45, main_cst_2, main_v46, main_v47, main_v48, main_v49, main_v50, main_v51,
  main_v52, main_c_3, main_v53]
/-- What the mask writes. -/
abbrev maskW : List (Ref sig .tc) := [main_v54, main_v55, main_v56, main_v57, main_v58, main_v59, main_c_4, main_v60, main_v61,
  main_v62, main_v63, main_cst_5, main_v64, main_v65]
/-- What the weights and sums write. -/
abbrev softW : List (Ref sig .tc) := [main_cst_6, main_v66, main_cst_7, main_v67, main_v68, main_v69, main_v70, main_v71,
  main_v72, main_cst_8, main_v73, main_v74, main_v75, main_v76, main_cst_9, main_v77, main_v78, main_v79, main_v80]
/-- What the way back writes. -/
abbrev backW : List (Ref sig .tc) := [main_v81, main_v82, main_cst_10, main_v83]
/-- What the mean and the output projection write. -/
abbrev postW : List (Ref sig .tc) := [main_cst_11, main_v84, main_v85, main_v86, main_v87, main_v88, main_v89, main_v90,
  main_v91, main_v92]

variable (V : Valuation τ sig (Elt F)) {r : Ref sig .tc}

theorem pre_keep (h : r ∉ preW) : after preOps V (Proc.devRef .tc r) = V (Proc.devRef .tc r) := after_unwritten preW rfl h V
theorem hash_keep (h : r ∉ hashW) : after hashOps V (Proc.devRef .tc r) = V (Proc.devRef .tc r) := after_unwritten hashW rfl h V
theorem gath_keep (h : r ∉ gathW) : after gathOps V (Proc.devRef .tc r) = V (Proc.devRef .tc r) := after_unwritten gathW rfl h V
theorem chunk_keep (h : r ∉ chunkW) : after chunkOps V (Proc.devRef .tc r) = V (Proc.devRef .tc r) := after_unwritten chunkW rfl h V
theorem score_keep (h : r ∉ scoreW) : after scoreOps V (Proc.devRef .tc r) = V (Proc.devRef .tc r) := after_unwritten scoreW rfl h V
theorem mask_keep (h : r ∉ maskW) : after maskOps V (Proc.devRef .tc r) = V (Proc.devRef .tc r) := after_unwritten maskW rfl h V
theorem soft_keep (h : r ∉ softW) : after softOps V (Proc.devRef .tc r) = V (Proc.devRef .tc r) := after_unwritten softW rfl h V
theorem back_keep (h : r ∉ backW) : after backOps V (Proc.devRef .tc r) = V (Proc.devRef .tc r) := after_unwritten backW rfl h V
theorem post_keep (h : r ∉ postW) : after postOps V (Proc.devRef .tc r) = V (Proc.devRef .tc r) := after_unwritten postW rfl h V

/-- Two lines one after the other are the second run from what the first leaves. -/
theorem after_two (l₁ l₂ : List (HloOp τ sig (Elt F))) : ∀ W : Valuation τ sig (Elt F), after (l₁ ++ l₂) W = after l₂ (after l₁ W) := by
  induction l₁ with
  | nil => exact fun _ => rfl
  | cons op l ih => exact fun W => ih _

/-- The whole line, segment after segment. -/
theorem after_all : after (partOps0 ++ partOps1) V = after postOps (after backOps (after softOps (after maskOps
    (after scoreOps (after chunkOps (after gathOps (after hashOps (after preOps V)))))))) := by
  unfold partOps0 partOps1
  simp only [after_two]

/-- What no segment writes is kept. -/
theorem all_keep (h : r ∉ preW ++ hashW ++ gathW ++ chunkW ++ scoreW ++ maskW ++ softW ++ backW ++ postW) :
    after (partOps0 ++ partOps1) V (Proc.devRef .tc r) = V (Proc.devRef .tc r) := by
  simp only [List.mem_append, not_or] at h
  obtain ⟨⟨⟨⟨⟨⟨⟨⟨h1, h2⟩, h3⟩, h4⟩, h5⟩, h6⟩, h7⟩, h8⟩, h9⟩ := h
  rw [after_all, post_keep _ h9, back_keep _ h8, soft_keep _ h7, mask_keep _ h6, score_keep _ h5, chunk_keep _ h4,
    gath_keep _ h3, hash_keep _ h2, pre_keep _ h1]

/-- No operation leaves its results open. -/
theorem ops_fresh : ∀ op ∈ (partOps0 ++ partOps1 : List (HloOp τ sig (Elt F))), op.fresh = ∅ := by
  intro _ h
  (repeat (cases h with | head => rfl | tail _ h => ?_))
  exact nomatch h

/-- Every run of the reference ends with its result as the operations leave it and with its arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v92) = after (partOps0 ++ partOps1) (launchContents m c) (Proc.devRef .tc main_v92)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  (θ_run defs _ _).mono (fun _ h c => ⟨h c main_v92, (h c main_arg0).trans (all_keep _ (by decide)), (h c main_arg1).trans (all_keep _ (by decide)),
      (h c main_arg2).trans (all_keep _ (by decide)), (h c main_arg3).trans (all_keep _ (by decide)),
      (h c main_arg4).trans (all_keep _ (by decide)), (h c main_arg5).trans (all_keep _ (by decide)),
      (h c main_arg6).trans (all_keep _ (by decide)), (h c main_arg7).trans (all_keep _ (by decide))⟩)
    (run_seq scopedRefs_eq scopedSems_eq defs main (fun _ => partOps0 ++ partOps1) main_eq (fun _ => ops_sub) m ρ (fun _ => ops_fresh))

end Cert.Proof.Ref
-- ==== Proof.Spec.lean ====
module

public import Idealize.ShloMosaic.Lib.Pointwise

/-!
# The layer as a function of its entries

Hashed attention written on plain functions: projections, buckets, the order by bucket and position,
attention of every sorted row over the keys of its bucket in its own chunk of 64 and the one before,
the way back, the mean of the rounds and the output projection.
-/

@[expose] public section
noncomputable section

namespace Cert.Proof.Spec

open Idealize.ShloMosaic

/-- One entry of a row times a transposed matrix, plus a bias. -/
def proj (W : Fin 1024 → Fin 1024 → EReal) (a : Fin 1024 → EReal) (x : Fin 1024 → EReal) (c : Fin 1024) : EReal :=
  (∑ k : Fin 1024, x k * W c k) + a c

/-- Column `d` of head `h`. -/
def col (h : Fin 16) (d : Fin 64) : Fin 1024 := ⟨h.1 * 64 + d.1, by omega⟩

/-- The 64 signed projections whose greatest names the bucket. -/
def hv (R : Fin 64 → Fin 32 → EReal) (q : Fin 64 → EReal) (j : Fin 64) : EReal :=
  if h : j.1 < 32 then ∑ d : Fin 64, R d ⟨j.1, h⟩ * q d
  else -(∑ d : Fin 64, R d ⟨j.1 - 32, by omega⟩ * q d)

/-- The better of two entries with their positions: the greater, and of equals the earlier. -/
def pick (p q : EReal × BitVec 32) : EReal × BitVec 32 :=
  if q.1 < p.1 then p else if p.1 = q.1 ∧ p.2.toInt < q.2.toInt then p else q

/-- The position of the greatest of 64 entries, of equals the first. -/
def amax (f : Fin 64 → EReal) : BitVec 32 :=
  (((List.finRange 64).map fun j => (f j, BitVec.ofNat 32 j.1)).foldl pick (⊥, 0#32)).2

/-- The word that rows are sorted by: the bucket, then the position. -/
def key (b : Fin 8192 → BitVec 32) (l : Fin 8192) : BitVec 32 := b l * 8192#32 + BitVec.ofNat 32 l.1

/-- The row that comes at a position when rows are sorted by a word. -/
def ord (w : Fin 8192 → BitVec 32) (p : Fin 8192) : Fin 8192 :=
  sortedFrom (fun k k' => IntOp.cmpi .slt (w k) (w k') == 1#1) p

/-- The same as a word. -/
def ordW (w : Fin 8192 → BitVec 32) (p : Fin 8192) : BitVec 32 := BitVec.ofNat 32 (ord w p).1

/-- The keys that row `l` looks at. -/
def sel (b : Fin 8192 → BitVec 32) (l k : Fin 8192) : Prop :=
  b k = b l ∧ k.1 ≤ l.1 ∧ l.1 / 64 * 64 ≤ k.1 + 64

instance (b : Fin 8192 → BitVec 32) (l k : Fin 8192) : Decidable (sel b l k) := by unfold sel; infer_instance

/-- The score of a query row against a key row. -/
def score (Q : Fin 8192 → Fin 64 → EReal) (l k : Fin 8192) : EReal :=
  Ideal.div (∑ d : Fin 64, Q l d * Q k d) (Ideal.ofBits .f32 0x41000000#32)

/-- The greatest score among the keys that row `l` looks at. -/
def top (b : Fin 8192 → BitVec 32) (Q : Fin 8192 → Fin 64 → EReal) (l : Fin 8192) : EReal :=
  Finset.univ.sup fun k => if sel b l k then score Q l k else ⊥

/-- The unnormalised weight of a key. -/
def wt (b : Fin 8192 → BitVec 32) (Q : Fin 8192 → Fin 64 → EReal) (l k : Fin 8192) : EReal :=
  if sel b l k then Ideal.exp (score Q l k - top b Q l) else 0

/-- One entry of the attention of row `l`. -/
def attn (b : Fin 8192 → BitVec 32) (Q V : Fin 8192 → Fin 64 → EReal) (l : Fin 8192) (d : Fin 64) : EReal :=
  Ideal.div (∑ k : Fin 8192, wt b Q l k * V k d) (∑ k : Fin 8192, wt b Q l k)

/-- The bucket of every row of one head in one round. -/
def bkt (R : Fin 64 → Fin 32 → EReal) (Q : Fin 8192 → Fin 64 → EReal) (l : Fin 8192) : BitVec 32 := amax (hv R (Q l))

/-- The sorted order of one head in one round. -/
def srt (R : Fin 64 → Fin 32 → EReal) (Q : Fin 8192 → Fin 64 → EReal) : Fin 8192 → Fin 8192 := ord (key (bkt R Q))

/-- One round of one head, in sorted order. -/
def sortedRound (R : Fin 64 → Fin 32 → EReal) (Q V : Fin 8192 → Fin 64 → EReal) (p : Fin 8192) (d : Fin 64) : EReal :=
  attn (fun p => bkt R Q (srt R Q p)) (fun p d => Q (srt R Q p) d) (fun p d => V (srt R Q p) d) p d

/-- One round of one head, in the order of the rows. -/
def round (R : Fin 64 → Fin 32 → EReal) (Q V : Fin 8192 → Fin 64 → EReal) (l : Fin 8192) (d : Fin 64) : EReal :=
  sortedRound R Q V (ord (fun p => BitVec.ofNat 32 (srt R Q p).1) l) d

/-- The mean of the rounds of one head. -/
def head (R : Fin 4 → Fin 64 → Fin 32 → EReal) (Q V : Fin 8192 → Fin 64 → EReal) (l : Fin 8192) (d : Fin 64) : EReal :=
  Ideal.div (∑ r : Fin 4, round (R r) Q V l d) (Ideal.ofBits .f32 0x40800000#32)

end Cert.Proof.Spec
-- ==== Proof.RefPre.lean ====
module

public import proofs.«01_k».proof.Proof.RefFrame
public import proofs.«01_k».proof.Proof.Spec
public import Idealize.ShloMosaic.Lib.StableHlo.ReadAt
public import Idealize.ShloMosaic.Lib.Pointwise

/-!
# The reference's projections, entry by entry
-/

@[expose] public section
noncomputable section
set_option maxRecDepth 16384

namespace Cert.Proof.Ref

open Cert.ReferenceIdeal Cert.ReferenceIdeal.Gen Idealize.ShloMosaic Idealize.ShloMosaic.TcCoe
open Idealize.ShloMosaic.StableHlo Idealize.ShloMosaic.Tactic

variable (V : Valuation τ sig (Elt Ideal))

theorem pre_v11 (b : Fin 2) (h : Fin 16) (l : Fin 8192) (d : Fin 64) :
    (after preOps V (Proc.devRef .tc main_v11) : S2x16x8192x64.Idx → EReal) (ix4 b h l d)
     = Spec.proj (fun r k => (V (Proc.devRef .tc main_arg1) : S1024x1024.Idx → EReal) (ix2 r k))
       (fun r => (V (Proc.devRef .tc main_arg2) : S1024.Idx → EReal) (ix1 r))
       (fun k => (V (Proc.devRef .tc main_arg0) : S2x8192x1024.Idx → EReal) (ix3 b l k)) (Spec.col h d) := by
  after_reads_simp
  pointwise
  rfl

theorem pre_v13 (b : Fin 2) (h : Fin 16) (l : Fin 8192) (d : Fin 64) :
    (after preOps V (Proc.devRef .tc main_v13) : S2x16x8192x64.Idx → EReal) (ix4 b h l d)
     = Spec.proj (fun r k => (V (Proc.devRef .tc main_arg3) : S1024x1024.Idx → EReal) (ix2 r k))
       (fun r => (V (Proc.devRef .tc main_arg4) : S1024.Idx → EReal) (ix1 r))
       (fun k => (V (Proc.devRef .tc main_arg0) : S2x8192x1024.Idx → EReal) (ix3 b l k)) (Spec.col h d) := by
  after_reads_simp
  pointwise
  rfl

end Cert.Proof.Ref
-- ==== Proof.SpecLemmas.lean ====
module

public import proofs.«01_k».proof.Proof.Spec

/-!
# Sums, greatest values and quotients of the specification

A sum or a greatest value over a window of keys is the one over all keys, when the keys outside the
window contribute nothing.  Where the rows are real numbers, dividing every weight by their sum is
dividing the weighted sum.
-/

@[expose] public section
noncomputable section

namespace Cert.Proof.Spec

open Idealize.ShloMosaic

theorem coe_sum {n : ℕ} (f : Fin n → ℝ) : ((∑ k, f k : ℝ) : EReal) = ∑ k, (f k : EReal) :=
  map_sum (⟨⟨Real.toEReal, rfl⟩, EReal.coe_add⟩ : ℝ →+ EReal) f Finset.univ

theorem fold_sup {n : ℕ} (f : Fin n → EReal) : Finset.univ.fold max ⊥ f = Finset.univ.sup f := rfl

theorem sum_window {n : ℕ} (P : Fin n → Prop) [DecidablePred P] (w : Fin n → Fin 8192)
    (hi : ∀ i j, P i → P j → w i = w j → i = j) (g : Fin 8192 → EReal) (hg : ∀ k, g k ≠ 0 → ∃ i, P i ∧ w i = k) :
    (∑ i, if P i then g (w i) else 0) = ∑ k, g k := by
  rw [← Finset.sum_filter]
  refine Finset.sum_of_injOn w ?_ ?_ ?_ ?_
  · intro i hi' j hj' h
    simp only [Finset.coe_filter, Finset.mem_univ, true_and, Set.mem_setOf_eq] at hi' hj'
    exact hi i j hi' hj' h
  · intro i _
    simp
  · intro k _ hk
    by_contra h
    obtain ⟨i, hP, hw⟩ := hg k h
    exact hk ⟨i, by simpa using hP, hw⟩
  · intro i _
    rfl

theorem sup_window {n : ℕ} (P : Fin n → Prop) [DecidablePred P] (w : Fin n → Fin 8192)
    (g : Fin 8192 → EReal) (hg : ∀ k, g k ≠ ⊥ → ∃ i, P i ∧ w i = k) :
    (Finset.univ.sup fun i => if P i then g (w i) else ⊥) = Finset.univ.sup g := by
  apply le_antisymm
  · refine Finset.sup_le fun i _ => ?_
    split
    · exact Finset.le_sup (f := g) (Finset.mem_univ _)
    · exact bot_le
  · refine Finset.sup_le fun k _ => ?_
    by_cases h : g k = ⊥
    · rw [h]; exact bot_le
    · obtain ⟨i, hP, rfl⟩ := hg k h
      refine le_trans (le_of_eq ?_) (Finset.le_sup (f := fun i => if P i then g (w i) else ⊥) (Finset.mem_univ i))
      simp [hP]

theorem sel_self (b : Fin 8192 → BitVec 32) (l : Fin 8192) : sel b l l := ⟨rfl, le_refl _, by omega⟩

/-- The constant that scores are divided by is eight. -/
theorem eight : Ideal.ofBits .f32 0x41000000#32 = ((8 : ℝ) : EReal) := by
  simp [Ideal.ofBits, Ideal.ieee, -EReal.coe_mul]; norm_num

/-- The word of minus infinity. -/
theorem neg_inf : Ideal.ofBits .f32 0xFF800000#32 = ⊥ := by
  simp [Ideal.ofBits, Ideal.ieee]

/-- The word of infinity. -/
theorem pos_inf : Ideal.ofBits .f32 0x7F800000#32 = ⊤ := by
  simp [Ideal.ofBits, Ideal.ieee]

variable (b : Fin 8192 → BitVec 32) (Q V : Fin 8192 → Fin 64 → EReal) (q : Fin 8192 → Fin 64 → ℝ) (hq : ∀ l d, Q l d = (q l d : EReal))
include hq

theorem score_real (l k : Fin 8192) : ∃ s : ℝ, score Q l k = (s : EReal) := by
  refine ⟨(∑ d, q l d * q k d) * (1 / 8), ?_⟩
  unfold score
  rw [eight, Ideal.div_coe (by norm_num : (8 : ℝ) ≠ 0)]
  simp only [hq]
  rw [EReal.coe_mul, coe_sum]
  simp only [EReal.coe_mul]

theorem top_real (l : Fin 8192) : ∃ t : ℝ, top b Q l = (t : EReal) := by
  obtain ⟨k, _, hk⟩ := Finset.exists_mem_eq_sup (Finset.univ : Finset (Fin 8192)) ⟨l, Finset.mem_univ _⟩
    (fun k => if sel b l k then score Q l k else ⊥)
  have hl : score Q l l ≤ top b Q l := by
    refine le_trans (le_of_eq ?_) (Finset.le_sup (f := fun k => if sel b l k then score Q l k else ⊥) (Finset.mem_univ l))
    simp [sel_self]
  obtain ⟨s, hs⟩ := score_real Q q hq l l
  by_cases h : sel b l k
  · obtain ⟨t, ht⟩ := score_real Q q hq l k
    refine ⟨t, ?_⟩
    unfold top
    rw [hk, if_pos h, ht]
  · exfalso
    unfold top at hl
    rw [hk, if_neg h, hs] at hl
    exact absurd hl (by simp)

theorem wt_real (l k : Fin 8192) : ∃ r : ℝ, 0 ≤ r ∧ wt b Q l k = (r : EReal) ∧ (sel b l k → 0 < r) := by
  obtain ⟨s, hs⟩ := score_real Q q hq l k
  obtain ⟨t, ht⟩ := top_real b Q q hq l
  unfold wt
  by_cases h : sel b l k
  · refine ⟨Real.exp (s - t), (Real.exp_pos _).le, ?_, fun _ => Real.exp_pos _⟩
    rw [if_pos h, hs, ht, ← EReal.coe_sub]
    rfl
  · exact ⟨0, le_refl _, by rw [if_neg h]; rfl, fun h' => absurd h' h⟩

theorem den_real (l : Fin 8192) : ∃ r : ℝ, 0 < r ∧ ∑ k, wt b Q l k = (r : EReal) := by
  choose r h0 h1 h2 using wt_real b Q q hq l
  refine ⟨∑ k, r k, Finset.sum_pos' (fun k _ => h0 k) ⟨l, Finset.mem_univ _, h2 l (sel_self b l)⟩, ?_⟩
  simp only [h1]
  exact (coe_sum r).symm

omit hq in
theorem sum_mul_real {n : ℕ} (f : Fin n → EReal) (c : ℝ) (hc : 0 ≤ c) : ∑ k, f k * (c : EReal) = (∑ k, f k) * (c : EReal) := by
  have h : ∀ s : Finset (Fin n), ∑ k ∈ s, f k * (c : EReal) = (∑ k ∈ s, f k) * (c : EReal) := by
    intro s
    induction s using Finset.induction_on with
    | empty => simp
    | insert a s ha ih =>
      rw [Finset.sum_insert ha, Finset.sum_insert ha, ih,
        EReal.right_distrib_of_nonneg_of_ne_top (by exact_mod_cast hc) (EReal.coe_ne_top c)]
  exact h _

/-- Weights divided by their sum add up to the quotient of the weighted sum. -/
theorem attn_div (l : Fin 8192) (d : Fin 64) :
    ∑ k, Ideal.div (wt b Q l k) (∑ k, wt b Q l k) * V k d = attn b Q V l d := by
  obtain ⟨r, hr, hd⟩ := den_real b Q q hq l
  unfold attn
  rw [hd]
  simp only [Ideal.div_coe hr.ne']
  rw [← sum_mul_real _ _ (by positivity)]
  refine Finset.sum_congr rfl fun k _ => ?_
  rw [mul_right_comm]

/-- What a masked entry contributes to the sum of the weights. -/
theorem exp_bot_sub (l : Fin 8192) : Ideal.exp (⊥ - top b Q l) = 0 := by
  obtain ⟨t, ht⟩ := top_real b Q q hq l
  rw [ht, EReal.bot_sub]
  rfl

end Cert.Proof.Spec
-- ==== Proof.Gather.lean ====
module

public import Idealize.ShloMosaic.Lib.Pointwise

/-!
# Taking rows by an index

Each of the gathers below reads, at a result index, the row that the index word names.
-/

@[expose] public section
noncomputable section
set_option maxRecDepth 16384

namespace Cert.Proof.Take

open Idealize.ShloMosaic

variable {α : Type}

/-- A row number's word, read signed and clamped, is the row number. -/
theorem clamp (n : Fin 8192) : min (BitVec.ofNat 32 n.1).toInt.toNat 8191 = n.1 := by
  have := n.2
  rw [BitVec.toInt_eq_toNat_cond, BitVec.toNat_ofNat]
  split <;> omega

/-- Rows of one table taken for every round. -/
abbrev dimsA (wf : GatherDims.WF ⟨4, ![2, 16, 8192, 64]⟩ ⟨5, ![4, 2, 16, 8192, 1]⟩ ⟨5, ![4, 2, 16, 8192, 64]⟩ [4] [2] [0, 1] [2] [1, 2] 4 ![1, 1, 1, 64]) : GatherDims ⟨4, ![2, 16, 8192, 64]⟩ ⟨5, ![4, 2, 16, 8192, 1]⟩ ⟨5, ![4, 2, 16, 8192, 64]⟩ where
  offsetDims := [4]
  collapsedSliceDims := [2]
  operandBatchingDims := [0, 1]
  startIndicesBatchingDims := [1, 2]
  startIndexMap := [2]
  indexVectorDim := 4
  sliceSizes := ![1, 1, 1, 64]
  wf := wf

theorem takeA (wf) (x : (⟨4, ![2, 16, 8192, 64]⟩ : Shape).Idx → α) (i : IVec ⟨5, ![4, 2, 16, 8192, 1]⟩ 32)
    (r : Fin 4) (b : Fin 2) (h : Fin 16) (l : Fin 8192) (d : Fin 64) (n : Fin 8192) (hn : i (ix5 r b h l 0) = BitVec.ofNat 32 n.1) :
    Host.gather (dimsA wf) x i (ix5 r b h l d) = x (ix4 b h n d) := by
  unfold Host.gather
  congr 1
  have hsi : (dimsA wf).siIdx (ix5 r b h l d) ⟨0, Nat.one_pos⟩ = ix5 r b h l 0 := by
    funext a
    fin_cases a <;> rfl
  funext a
  refine Fin.ext ?_
  fin_cases a
  · exact Nat.zero_add _
  · exact Nat.zero_add _
  · show min (i ((dimsA wf).siIdx (ix5 r b h l d) ⟨0, Nat.one_pos⟩)).toInt.toNat 8191 + 0 + 0 = n.1
    rw [hsi, hn, clamp]
    rfl
  · exact Nat.zero_add _

/-- Rows of every round's own table. -/
abbrev dimsB (wf : GatherDims.WF ⟨5, ![4, 2, 16, 8192, 64]⟩ ⟨5, ![4, 2, 16, 8192, 1]⟩ ⟨5, ![4, 2, 16, 8192, 64]⟩ [4] [3] [0, 1, 2] [3] [0, 1, 2] 4 ![1, 1, 1, 1, 64]) : GatherDims ⟨5, ![4, 2, 16, 8192, 64]⟩ ⟨5, ![4, 2, 16, 8192, 1]⟩ ⟨5, ![4, 2, 16, 8192, 64]⟩ where
  offsetDims := [4]
  collapsedSliceDims := [3]
  operandBatchingDims := [0, 1, 2]
  startIndicesBatchingDims := [0, 1, 2]
  startIndexMap := [3]
  indexVectorDim := 4
  sliceSizes := ![1, 1, 1, 1, 64]
  wf := wf

theorem takeB (wf) (x : (⟨5, ![4, 2, 16, 8192, 64]⟩ : Shape).Idx → α) (i : IVec ⟨5, ![4, 2, 16, 8192, 1]⟩ 32)
    (r : Fin 4) (b : Fin 2) (h : Fin 16) (l : Fin 8192) (d : Fin 64) (n : Fin 8192) (hn : i (ix5 r b h l 0) = BitVec.ofNat 32 n.1) :
    Host.gather (dimsB wf) x i (ix5 r b h l d) = x (ix5 r b h n d) := by
  unfold Host.gather
  congr 1
  have hsi : (dimsB wf).siIdx (ix5 r b h l d) ⟨0, Nat.one_pos⟩ = ix5 r b h l 0 := by
    funext a
    fin_cases a <;> rfl
  funext a
  refine Fin.ext ?_
  fin_cases a
  · exact Nat.zero_add _
  · exact Nat.zero_add _
  · exact Nat.zero_add _
  · show min (i ((dimsB wf).siIdx (ix5 r b h l d) ⟨0, Nat.one_pos⟩)).toInt.toNat 8191 + 0 + 0 = n.1
    rw [hsi, hn, clamp]
    rfl
  · exact Nat.zero_add _

/-- Entries of every round's own table. -/
abbrev dimsC (wf : GatherDims.WF ⟨4, ![4, 2, 16, 8192]⟩ ⟨5, ![4, 2, 16, 8192, 1]⟩ ⟨4, ![4, 2, 16, 8192]⟩ [] [3] [0, 1, 2] [3] [0, 1, 2] 4 ![1, 1, 1, 1]) : GatherDims ⟨4, ![4, 2, 16, 8192]⟩ ⟨5, ![4, 2, 16, 8192, 1]⟩ ⟨4, ![4, 2, 16, 8192]⟩ where
  offsetDims := []
  collapsedSliceDims := [3]
  operandBatchingDims := [0, 1, 2]
  startIndicesBatchingDims := [0, 1, 2]
  startIndexMap := [3]
  indexVectorDim := 4
  sliceSizes := ![1, 1, 1, 1]
  wf := wf

theorem takeC (wf) (x : (⟨4, ![4, 2, 16, 8192]⟩ : Shape).Idx → α) (i : IVec ⟨5, ![4, 2, 16, 8192, 1]⟩ 32)
    (r : Fin 4) (b : Fin 2) (h : Fin 16) (l : Fin 8192) (n : Fin 8192) (hn : i (ix5 r b h l 0) = BitVec.ofNat 32 n.1) :
    Host.gather (dimsC wf) x i (ix4 r b h l) = x (ix4 r b h n) := by
  unfold Host.gather
  congr 1
  have hsi : (dimsC wf).siIdx (ix4 r b h l) ⟨0, Nat.one_pos⟩ = ix5 r b h l 0 := by
    funext a
    fin_cases a <;> rfl
  funext a
  refine Fin.ext ?_
  fin_cases a
  · exact Nat.zero_add _
  · exact Nat.zero_add _
  · exact Nat.zero_add _
  · show min (i ((dimsC wf).siIdx (ix4 r b h l) ⟨0, Nat.one_pos⟩)).toInt.toNat 8191 + 0 + 0 = n.1
    rw [hsi, hn, clamp]
    rfl

/-- Entries of one round's table. -/
abbrev dimsD (wf : GatherDims.WF ⟨3, ![2, 16, 8192]⟩ ⟨4, ![2, 16, 8192, 1]⟩ ⟨3, ![2, 16, 8192]⟩ [] [2] [0, 1] [2] [0, 1] 3 ![1, 1, 1]) : GatherDims ⟨3, ![2, 16, 8192]⟩ ⟨4, ![2, 16, 8192, 1]⟩ ⟨3, ![2, 16, 8192]⟩ where
  offsetDims := []
  collapsedSliceDims := [2]
  operandBatchingDims := [0, 1]
  startIndicesBatchingDims := [0, 1]
  startIndexMap := [2]
  indexVectorDim := 3
  sliceSizes := ![1, 1, 1]
  wf := wf

theorem takeD (wf) (x : (⟨3, ![2, 16, 8192]⟩ : Shape).Idx → α) (i : IVec ⟨4, ![2, 16, 8192, 1]⟩ 32)
    (b : Fin 2) (h : Fin 16) (l : Fin 8192) (n : Fin 8192) (hn : i (ix4 b h l 0) = BitVec.ofNat 32 n.1) :
    Host.gather (dimsD wf) x i (ix3 b h l) = x (ix3 b h n) := by
  unfold Host.gather
  congr 1
  have hsi : (dimsD wf).siIdx (ix3 b h l) ⟨0, Nat.one_pos⟩ = ix4 b h l 0 := by
    funext a
    fin_cases a <;> rfl
  funext a
  refine Fin.ext ?_
  fin_cases a
  · exact Nat.zero_add _
  · exact Nat.zero_add _
  · show min (i ((dimsD wf).siIdx (ix3 b h l) ⟨0, Nat.one_pos⟩)).toInt.toNat 8191 + 0 + 0 = n.1
    rw [hsi, hn, clamp]
    rfl

end Cert.Proof.Take
-- ==== Proof.Order.lean ====
module

public import proofs.«01_k».proof.Proof.Spec

/-!
# The sort and the greatest entry

The printed sort by a word is the order of the specification, and the printed search for the
greatest of 64 entries is its search.
-/

@[expose] public section
noncomputable section
set_option maxRecDepth 16384

namespace Cert.Proof.Order

open Idealize.ShloMosaic

theorem sort3 (cmp : BitVec 32 × BitVec 32 → BitVec 32 × BitVec 32 → BitVec 1) (hc : ∀ x y, cmp x y = IntOp.cmpi .slt x.1 y.1)
    (x : (⟨4, ![4, 2, 16, 8192]⟩ : Shape).Idx → BitVec 32) (r : Fin 4) (b : Fin 2) (h : Fin 16) (p : Fin 8192) :
    (Host.sort2 ⟨4, ![4, 2, 16, 8192]⟩ 3 cmp x (iotaInDim ⟨4, ![4, 2, 16, 8192]⟩ 32 3)).2 (ix4 r b h p)
      = Spec.ordW (fun k => x (ix4 r b h k)) p := by
  have h3 : 3 < 4 := by decide
  have hi : ∀ k : Fin 8192, iotaInDim ⟨4, ![4, 2, 16, 8192]⟩ 32 3 (ix4 r b h k) = BitVec.ofNat 32 k.1 := fun k => rfl
  have ha : ∀ k : Fin 8192, Shape.Idx.along (s := ⟨4, ![4, 2, 16, 8192]⟩) (ix4 r b h p) ⟨3, h3⟩ k = ix4 r b h k := by
    intro k
    funext a
    fin_cases a <;> rfl
  unfold Host.sort2
  rw [dif_pos (show 3 < (⟨4, ![4, 2, 16, 8192]⟩ : Shape).rank by decide)]
  dsimp only
  simp only [hc]
  refine (congrArg (iotaInDim _ 32 _) (ha _)).trans ?_
  refine (hi _).trans ?_
  unfold Spec.ordW Spec.ord
  refine congrArg (fun k : Fin 8192 => BitVec.ofNat 32 k.1) ?_
  refine congrArg (fun f => sortedFrom (n := 8192) f p) (funext₂ fun k k' => ?_)
  exact congrArg₂ (fun a b => IntOp.cmpi .slt (x a) (x b) == 1#1) (ha k) (ha k')

theorem sort2 (cmp : BitVec 32 × BitVec 32 → BitVec 32 × BitVec 32 → BitVec 1) (hc : ∀ x y, cmp x y = IntOp.cmpi .slt x.1 y.1)
    (x : (⟨3, ![2, 16, 8192]⟩ : Shape).Idx → BitVec 32) (b : Fin 2) (h : Fin 16) (p : Fin 8192) :
    (Host.sort2 ⟨3, ![2, 16, 8192]⟩ 2 cmp x (iotaInDim ⟨3, ![2, 16, 8192]⟩ 32 2)).2 (ix3 b h p)
      = Spec.ordW (fun k => x (ix3 b h k)) p := by
  have h3 : 2 < 3 := by decide
  have hi : ∀ k : Fin 8192, iotaInDim ⟨3, ![2, 16, 8192]⟩ 32 2 (ix3 b h k) = BitVec.ofNat 32 k.1 := fun k => rfl
  have ha : ∀ k : Fin 8192, Shape.Idx.along (s := ⟨3, ![2, 16, 8192]⟩) (ix3 b h p) ⟨2, h3⟩ k = ix3 b h k := by
    intro k
    funext a
    fin_cases a <;> rfl
  unfold Host.sort2
  rw [dif_pos (show 2 < (⟨3, ![2, 16, 8192]⟩ : Shape).rank by decide)]
  dsimp only
  simp only [hc]
  refine (congrArg (iotaInDim _ 32 _) (ha _)).trans ?_
  refine (hi _).trans ?_
  unfold Spec.ordW Spec.ord
  refine congrArg (fun k : Fin 8192 => BitVec.ofNat 32 k.1) ?_
  refine congrArg (fun f => sortedFrom (n := 8192) f p) (funext₂ fun k k' => ?_)
  exact congrArg₂ (fun a b => IntOp.cmpi .slt (x a) (x b) == 1#1) (ha k) (ha k')

/-- One pair is no better than another. -/
def le (p q : EReal × BitVec 32) : Prop := p.1 < q.1 ∨ p.1 = q.1 ∧ q.2.toInt ≤ p.2.toInt

theorem le_refl (p : EReal × BitVec 32) : le p p := Or.inr ⟨rfl, Int.le_refl _⟩

theorem le_trans {p q r : EReal × BitVec 32} (h : le p q) (h' : le q r) : le p r := by
  rcases h with h | ⟨h1, h2⟩ <;> rcases h' with h' | ⟨h1', h2'⟩
  · exact Or.inl (h.trans h')
  · exact Or.inl (h1' ▸ h)
  · exact Or.inl (h1 ▸ h')
  · exact Or.inr ⟨h1.trans h1', h2'.trans h2⟩

theorem le_antisymm {p q : EReal × BitVec 32} (h : le p q) (h' : le q p) : p = q := by
  rcases h with h | ⟨h1, h2⟩ <;> rcases h' with h' | ⟨h1', h2'⟩
  · exact absurd h (lt_asymm h')
  · exact absurd h1' (ne_of_gt h)
  · exact absurd h1 (ne_of_gt h')
  · exact Prod.ext h1 (BitVec.eq_of_toInt_eq (Int.le_antisymm h2' h2))

theorem pick_cases (p q : EReal × BitVec 32) : (Spec.pick p q = p ∧ le q p) ∨ (Spec.pick p q = q ∧ le p q) := by
  unfold Spec.pick
  by_cases h1 : q.1 < p.1
  · rw [if_pos h1]; exact Or.inl ⟨rfl, Or.inl h1⟩
  · rw [if_neg h1]
    by_cases h2 : p.1 = q.1 ∧ p.2.toInt < q.2.toInt
    · rw [if_pos h2]; exact Or.inl ⟨rfl, Or.inr ⟨h2.1.symm, h2.2.le⟩⟩
    · rw [if_neg h2]
      refine Or.inr ⟨rfl, ?_⟩
      rcases lt_or_eq_of_le (not_lt.mp h1) with h | h
      · exact Or.inl h
      · exact Or.inr ⟨h, not_lt.mp fun h' => h2 ⟨h, h'⟩⟩

/-- The fold's result is one of the pairs and no pair is better. -/
theorem fold_best (l : List (EReal × BitVec 32)) : ∀ p, (l.foldl Spec.pick p ∈ p :: l) ∧ ∀ q ∈ p :: l, le q (l.foldl Spec.pick p) := by
  induction l with
  | nil => intro p; exact ⟨List.mem_cons_self, fun q hq => by rw [List.mem_singleton.mp hq]; exact le_refl _⟩
  | cons a l ih =>
    intro p
    obtain ⟨h1, h2⟩ := ih (Spec.pick p a)
    have ha : le a (Spec.pick p a) ∧ le p (Spec.pick p a) := by
      rcases pick_cases p a with ⟨e, h⟩ | ⟨e, h⟩ <;> rw [e]
      · exact ⟨h, le_refl _⟩
      · exact ⟨le_refl _, h⟩
    have hp := h2 _ List.mem_cons_self
    refine ⟨?_, ?_⟩
    · rw [List.foldl_cons]
      rcases List.mem_cons.mp h1 with h | h
      · rw [h]
        rcases pick_cases p a with ⟨e, _⟩ | ⟨e, _⟩ <;> rw [e] <;> simp
      · simp [h]
    · intro q hq
      rw [List.foldl_cons]
      rcases List.mem_cons.mp hq with h | h
      · rw [h]; exact le_trans ha.2 hp
      · rcases List.mem_cons.mp h with h | h
        · rw [h]; exact le_trans ha.1 hp
        · exact h2 q (List.mem_cons_of_mem _ h)

/-- Two folds over the same pairs agree. -/
theorem fold_eq (l l' : List (EReal × BitVec 32)) (p) (h : ∀ q, q ∈ l ↔ q ∈ l') : l.foldl Spec.pick p = l'.foldl Spec.pick p := by
  obtain ⟨h1, h2⟩ := fold_best l p
  obtain ⟨h1', h2'⟩ := fold_best l' p
  have hm : ∀ q, q ∈ p :: l ↔ q ∈ p :: l' := fun q => by simp only [List.mem_cons, h]
  exact le_antisymm (h2' _ ((hm _).mp h1)) (h2 _ ((hm _).mpr h1'))

/-- A bucket is one of 64. -/
theorem amax_lt (f : Fin 64 → EReal) : ∃ j : Fin 64, Spec.amax f = BitVec.ofNat 32 j.1 := by
  obtain ⟨h1, -⟩ := fold_best ((List.finRange 64).map fun j => (f j, BitVec.ofNat 32 j.1)) (⊥, 0#32)
  unfold Spec.amax
  rcases List.mem_cons.mp h1 with h | h
  · exact ⟨0, by rw [h]; rfl⟩
  · obtain ⟨j, -, e⟩ := List.mem_map.mp h
    exact ⟨j, by rw [← e]⟩

theorem amax_ne (f : Fin 64 → EReal) : Spec.amax f ≠ 4294967295#32 := by
  obtain ⟨j, e⟩ := amax_lt f
  rw [e]
  intro h
  have := congrArg BitVec.toNat h
  rw [BitVec.toNat_ofNat] at this
  have := j.2
  simp at *
  omega

variable {s t u : Shape} {axes : List (Fin s.rank)}

/-- The printed search is the specification's, when the fiber over a result index is 64 entries. -/
theorem argmax_eq (f : Ideal .f32 × BitVec 32 → Ideal .f32 × BitVec 32 → Ideal .f32 × BitVec 32) (hf : f = Spec.pick)
    (x : FVec Ideal s .f32) (y : s.Idx → BitVec 32) (ix : u.Idx → Ideal .f32) (iy : u.Idx → BitVec 32)
    (h : s.ReducesTo axes t) (hu : 0 < u.numel) (j : t.Idx)
    (hx : ix (Shape.Idx.first hu) = (⊥ : EReal)) (hy : iy (Shape.Idx.first hu) = 0#32) (e : Fin 64 → s.Idx)
    (he : ∀ k, h.drop (e k) = j) (he' : ∀ i, h.drop i = j → ∃ k, i = e k) (hk : ∀ k, y (e k) = BitVec.ofNat 32 k.1) :
    (Host.argReduce f x y ix iy h hu j).2 = Spec.amax fun k => x (e k) := by
  rw [Ideal.argReduce_eq_reduce2, Host.reduce2_eq_foldl_fiber, hx, hy, hf]
  unfold Spec.amax
  refine congrArg Prod.snd (fold_eq _ _ _ fun q => ?_)
  unfold Host.argReduceFiber
  constructor
  · intro hq
    obtain ⟨n, hn, rfl⟩ := List.mem_map.mp hq
    have hd := (List.mem_filter.mp hn).2
    obtain ⟨k, hk'⟩ := he' _ (of_decide_eq_true hd)
    refine List.mem_map.mpr ⟨k, List.mem_finRange k, ?_⟩
    dsimp only
    rw [hk', hk]
  · intro hq
    obtain ⟨k, -, rfl⟩ := List.mem_map.mp hq
    refine List.mem_map.mpr ⟨s.rowMajor (e k), List.mem_filter.mpr ⟨List.mem_finRange _, ?_⟩, ?_⟩
    · simp [he k]
    · dsimp only
      rw [Equiv.symm_apply_apply, hk]

end Cert.Proof.Order
-- ==== Proof.RefHash.lean ====
module

public import proofs.«01_k».proof.Proof.RefFrame
public import proofs.«01_k».proof.Proof.SpecLemmas
public import proofs.«01_k».proof.Proof.Gather
public import proofs.«01_k».proof.Proof.Order
public import Idealize.ShloMosaic.Lib.StableHlo.ReadAt
public import Idealize.ShloMosaic.Lib.Pointwise

/-!
# The reference's hashes, entry by entry
-/

@[expose] public section
noncomputable section
set_option maxRecDepth 16384

namespace Cert.Proof.Ref

open Cert.ReferenceIdeal Cert.ReferenceIdeal.Gen Idealize.ShloMosaic Idealize.ShloMosaic.TcCoe
open Idealize.ShloMosaic.StableHlo Idealize.ShloMosaic.Tactic

variable (V : Valuation τ sig (Elt Ideal))

theorem sign_v18 (r : Fin 4) (b : Fin 2) (h : Fin 16) (l : Fin 8192) (j : Fin 64) :
    (after signOps V (Proc.devRef .tc main_v18) : S4x2x16x8192x64.Idx → EReal) (ix5 r b h l j)
     = Spec.hv (fun d e => (V (Proc.devRef .tc main_arg7) : S4x16x64x32.Idx → EReal) (ix4 r h d e))
       (fun d => (V (Proc.devRef .tc main_v11) : S2x16x8192x64.Idx → EReal) (ix4 b h l d)) j := by
  after_reads_simp
  pointwise
  rfl

theorem sign_v14 (l : Fin 8192) :
    (after signOps V (Proc.devRef .tc main_v14) : S8192.Idx → BitVec 32) (ix1 l) = BitVec.ofNat 32 l.1 := by
  after_reads_simp
  pointwise

/-- The printed choice of the better of two entries. -/
theorem reducer_eq : (reducer_argmax_f32_i32 : Ideal .f32 × BitVec 32 → _) = Spec.pick := by
  funext p q
  unfold reducer_argmax_f32_i32 Spec.pick
  dsimp only
  simp only [Ideal.cmpf_def, Ideal.cmp, IntOp.cmpi, IntOp.ori, IntOp.andi, Scalar.select]
  by_cases h1 : q.1 < p.1
  · simp [h1, ne_of_gt h1]
  · by_cases h2 : p.1 = q.1
    · by_cases h3 : p.2.toInt < q.2.toInt <;> simp [h2, h3, BitVec.slt, Prod.ext_iff]
    · simp [h1, h2]

/-- The bucket of a row. -/
theorem argmax_apply (x : FVec Ideal S4x2x16x8192x64 .f32) (y : IVec S4x2x16x8192x64 32) (ix : FVec Ideal S_ .f32) (iy : IVec S_ 32) (hix : ix (Shape.Idx.first h_S_) = ⊥) (hiy : iy (Shape.Idx.first h_S_) = 0#32)
    (r : Fin 4) (b : Fin 2) (h : Fin 16) (l : Fin 8192) (hy : ∀ k, y (ix5 r b h l k) = BitVec.ofNat 32 k.1) :
    (Host.argReduce reducer_argmax_f32_i32 x y ix iy reducesTo_S4x2x16x8192x64_S4x2x16x8192_d4 h_S_ (ix4 r b h l)).2 = Spec.amax fun j => x (ix5 r b h l j) := by
  refine Order.argmax_eq _ reducer_eq _ _ _ _ _ _ _ hix hiy (fun k => ix5 r b h l k) (fun k => ?_) (fun i e => ?_) hy
  · funext a
    fin_cases a <;> rfl
  · idx_vars i
    have e0 : i0 = r := congrFun e 0
    have e1 : i1 = b := congrFun e 1
    have e2 : i2 = h := congrFun e 2
    have e3 : i3 = l := congrFun e 3
    exact ⟨i4, by rw [e0, e1, e2, e3]⟩

/-- Reading the second halves of pairs. -/
theorem snd_read (A : S4x2x16x8192.Idx → EReal × BitVec 32) (B : BitVec 32) (j : S4x2x16x8192.Idx) (h : (A j).2 = B) :
    (main_call0.v1_1.toBuf (Val := Elt Ideal) (fun j => (A j).2) : S4x2x16x8192.Idx → BitVec 32) j = B := h

theorem argmax_v19 (r : Fin 4) (b : Fin 2) (h : Fin 16) (l : Fin 8192) :
    (after (argmaxOps (.of main_v18) main_call0) V (Proc.devRef .tc main_v19) : S4x2x16x8192.Idx → BitVec 32) (ix4 r b h l)
     = Spec.amax fun j => (V (Proc.devRef .tc main_v18) : S4x2x16x8192x64.Idx → EReal) (ix5 r b h l j) := by
  after_reads_simp
  exact snd_read _ _ _ (argmax_apply _ _ _ _ Spec.neg_inf rfl r b h l fun _ => rfl)

theorem key_v24 (bk : Fin 4 → Fin 2 → Fin 16 → Fin 8192 → BitVec 32)
   (h19 : ∀ r b h l, (V (Proc.devRef .tc main_v19) : S4x2x16x8192.Idx → BitVec 32) (ix4 r b h l) = bk r b h l)
   (h14 : ∀ l, (V (Proc.devRef .tc main_v14) : S8192.Idx → BitVec 32) (ix1 l) = BitVec.ofNat 32 l.1)
   (r : Fin 4) (b : Fin 2) (h : Fin 16) (l : Fin 8192) :
    (after keyOps V (Proc.devRef .tc main_v24) : S4x2x16x8192.Idx → BitVec 32) (ix4 r b h l) = Spec.key (bk r b h) l := by
  after_reads_simp
  pointwise
  rw [h19, h14]
  rfl

theorem argsort_v25 (r : Fin 4) (b : Fin 2) (h : Fin 16) (l : Fin 8192) :
    (after (argsortOps (.of main_v24) main_call1) V (Proc.devRef .tc main_v25) : S4x2x16x8192.Idx → BitVec 32) (ix4 r b h l)
     = Spec.ordW (fun k => (V (Proc.devRef .tc main_v24) : S4x2x16x8192.Idx → BitVec 32) (ix4 r b h k)) l := by
  after_reads_simp
  exact Order.sort3 comparator_i32_i32_d3 (fun _ _ => rfl) _ r b h l

/-- The buckets of one head of one batch in one round. -/
abbrev bk (V : Valuation τ sig (Elt Ideal)) (r : Fin 4) (b : Fin 2) (h : Fin 16) : Fin 8192 → BitVec 32 :=
  Spec.bkt (fun d e => (V (Proc.devRef .tc main_arg7) : S4x16x64x32.Idx → EReal) (ix4 r h d e))
    (fun l d => (V (Proc.devRef .tc main_v11) : S2x16x8192x64.Idx → EReal) (ix4 b h l d))

theorem hash_v19 (r : Fin 4) (b : Fin 2) (h : Fin 16) (l : Fin 8192) :
    (after hashOps V (Proc.devRef .tc main_v19) : S4x2x16x8192.Idx → BitVec 32) (ix4 r b h l) = bk V r b h l := by
  unfold hashOps
  rw [after_two, after_two, after_two, after_unwritten [main_call1_v0, main_call1_v1_0, main_v25] rfl (by decide), after_unwritten [main_c, main_v20, main_v21, main_v22, main_v23, main_v24] rfl (by decide)]
  refine (argmax_v19 _ r b h l).trans (congrArg Spec.amax (funext fun j => sign_v18 V r b h l j))

theorem hash_v25 (r : Fin 4) (b : Fin 2) (h : Fin 16) (l : Fin 8192) :
    (after hashOps V (Proc.devRef .tc main_v25) : S4x2x16x8192.Idx → BitVec 32) (ix4 r b h l)
      = BitVec.ofNat 32 (Spec.ord (Spec.key (bk V r b h)) l).1 := by
  unfold hashOps
  rw [after_two, after_two, after_two]
  refine (argsort_v25 _ r b h l).trans (congrArg (fun w => Spec.ordW w l) (funext fun k => ?_))
  refine key_v24 _ (bk V) (fun r b h l => ?_) (fun l => ?_) r b h k
  · exact (argmax_v19 _ r b h l).trans (congrArg Spec.amax (funext fun j => sign_v18 V r b h l j))
  · rw [after_unwritten [main_call0_v0, main_call0_cst, main_call0_c, main_call0_v1_0, main_v19] rfl (by decide)]
    exact sign_v14 V l

end Cert.Proof.Ref
-- ==== Proof.RefGath.lean ====
module

public import proofs.«01_k».proof.Proof.RefFrame
public import proofs.«01_k».proof.Proof.SpecLemmas
public import proofs.«01_k».proof.Proof.Gather
public import proofs.«01_k».proof.Proof.Order
public import Idealize.ShloMosaic.Lib.StableHlo.ReadAt
public import Idealize.ShloMosaic.Lib.Pointwise

/-!
# The reference's sorted rows, entry by entry
-/

@[expose] public section
noncomputable section
set_option maxRecDepth 16384

namespace Cert.Proof.Ref

open Cert.ReferenceIdeal Cert.ReferenceIdeal.Gen Idealize.ShloMosaic Idealize.ShloMosaic.TcCoe
open Idealize.ShloMosaic.StableHlo Idealize.ShloMosaic.Tactic

variable (V : Valuation τ sig (Elt Ideal))

theorem gath_v32 (r : Fin 4) (b : Fin 2) (h : Fin 16) (l : Fin 8192) :
    (after gathOps V (Proc.devRef .tc main_v32) : S4x2x16x8192.Idx → BitVec 32) (ix4 r b h l)
     = Spec.ordW (fun k => (V (Proc.devRef .tc main_v25) : S4x2x16x8192.Idx → BitVec 32) (ix4 r b h k)) l := by
  after_reads_simp
  exact Order.sort3 comparator_i32_i32_d3 (fun _ _ => rfl) _ r b h l

variable (n : Fin 4 → Fin 2 → Fin 16 → Fin 8192 → Fin 8192)
   (hn : ∀ r b h l, (V (Proc.devRef .tc main_v25) : S4x2x16x8192.Idx → BitVec 32) (ix4 r b h l) = BitVec.ofNat 32 (n r b h l).1)
include hn

theorem gath_v27 (r : Fin 4) (b : Fin 2) (h : Fin 16) (l : Fin 8192) (d : Fin 64) :
    (after gathOps V (Proc.devRef .tc main_v27) : S4x2x16x8192x64.Idx → EReal) (ix5 r b h l d)
     = (V (Proc.devRef .tc main_v11) : S2x16x8192x64.Idx → EReal) (ix4 b h (n r b h l) d) := by
  after_reads_simp
  refine Take.takeA _ _ _ r b h l d (n r b h l) ?_
  pointwise
  exact hn r b h l

theorem gath_v29 (r : Fin 4) (b : Fin 2) (h : Fin 16) (l : Fin 8192) (d : Fin 64) :
    (after gathOps V (Proc.devRef .tc main_v29) : S4x2x16x8192x64.Idx → EReal) (ix5 r b h l d)
     = (V (Proc.devRef .tc main_v13) : S2x16x8192x64.Idx → EReal) (ix4 b h (n r b h l) d) := by
  after_reads_simp
  refine Take.takeA _ _ _ r b h l d (n r b h l) ?_
  pointwise
  exact hn r b h l

theorem gath_v31 (r : Fin 4) (b : Fin 2) (h : Fin 16) (l : Fin 8192) :
    (after gathOps V (Proc.devRef .tc main_v31) : S4x2x16x8192.Idx → BitVec 32) (ix4 r b h l)
     = (V (Proc.devRef .tc main_v19) : S4x2x16x8192.Idx → BitVec 32) (ix4 r b h (n r b h l)) := by
  after_reads_simp
  refine Take.takeC _ _ _ r b h l (n r b h l) ?_
  pointwise
  exact hn r b h l

end Cert.Proof.Ref
-- ==== Proof.RefMask.lean ====
module

public import proofs.«01_k».proof.Proof.RefFrame
public import proofs.«01_k».proof.Proof.SpecLemmas
public import proofs.«01_k».proof.Proof.Gather
public import proofs.«01_k».proof.Proof.Order
public import Idealize.ShloMosaic.Lib.StableHlo.ReadAt
public import Idealize.ShloMosaic.Lib.Pointwise

/-!
# The reference's mask and masked scores, entry by entry
-/

@[expose] public section
noncomputable section
set_option maxRecDepth 16384

namespace Cert.Proof.Ref

open Cert.ReferenceIdeal Cert.ReferenceIdeal.Gen Idealize.ShloMosaic Idealize.ShloMosaic.TcCoe
open Idealize.ShloMosaic.StableHlo Idealize.ShloMosaic.Tactic

variable (V : Valuation τ sig (Elt Ideal))

/-- Whether a key is hidden from a row of its chunk. -/
def hid (bi bj : BitVec 32) (i : Fin 64) (j : Fin 128) : BitVec 1 :=
  IntOp.ori (IntOp.ori (IntOp.cmpi .ne bi bj) (IntOp.cmpi .eq bj 4294967295#32))
    (IntOp.cmpi .sgt (BitVec.ofNat 32 j.1) (IntOp.addi (BitVec.ofNat 32 i.1) 64#32))

variable (bi : Fin 64 → BitVec 32) (bj : Fin 128 → BitVec 32) (r : Fin 4) (b : Fin 2) (h : Fin 16) (c : Fin 128)
   (hi : ∀ i, (V (Proc.devRef .tc main_v35) : S4x2x16x128x64.Idx → BitVec 32) (ix5 r b h c i) = bi i)
   (hj : ∀ j, (V (Proc.devRef .tc main_v44) : S4x2x16x128x128.Idx → BitVec 32) (ix5 r b h c j) = bj j)
include hi hj

theorem mask_v63 (i : Fin 64) (j : Fin 128) :
    (after maskOps (after scoreOps V) (Proc.devRef .tc main_v63) : S4x2x16x128x64x128.Idx → BitVec 1) (ix6 r b h c i j)
     = hid (bi i) (bj j) i j := by
  after_reads_simp
  pointwise
  rw [hi, hj]
  rfl

theorem mask_v65 (x : Fin 64 → Fin 64 → EReal) (y : Fin 128 → Fin 64 → EReal)
   (hx : ∀ i d, (V (Proc.devRef .tc main_v33) : S4x2x16x128x64x64.Idx → EReal) (ix6 r b h c i d) = x i d)
   (hy : ∀ j d, (V (Proc.devRef .tc main_v38) : S4x2x16x128x128x64.Idx → EReal) (ix6 r b h c j d) = y j d)
   (i : Fin 64) (j : Fin 128) :
    (after maskOps (after scoreOps V) (Proc.devRef .tc main_v65) : S4x2x16x128x64x128.Idx → EReal) (ix6 r b h c i j)
     = Scalar.select (hid (bi i) (bj j) i j) (Ideal.ofBits .f32 0xFF800000#32)
        (Ideal.div (∑ d : Fin 64, x i d * y j d) (Ideal.ofBits .f32 0x41000000#32)) := by
  after_reads_simp
  pointwise
  rw [hi, hj]
  simp only [hx, hy]
  rfl

end Cert.Proof.Ref
-- ==== Proof.RefSoft.lean ====
module

public import proofs.«01_k».proof.Proof.RefFrame
public import proofs.«01_k».proof.Proof.SpecLemmas
public import proofs.«01_k».proof.Proof.Gather
public import proofs.«01_k».proof.Proof.Order
public import Idealize.ShloMosaic.Lib.StableHlo.ReadAt
public import Idealize.ShloMosaic.Lib.Pointwise

/-!
# The reference's weights and weighted sums, entry by entry
-/

@[expose] public section
noncomputable section
set_option maxRecDepth 16384

namespace Cert.Proof.Ref

open Cert.ReferenceIdeal Cert.ReferenceIdeal.Gen Idealize.ShloMosaic Idealize.ShloMosaic.TcCoe
open Idealize.ShloMosaic.StableHlo Idealize.ShloMosaic.Tactic

variable (V : Valuation τ sig (Elt Ideal))

/-- The entries that a sum along the last axis adds. -/
theorem fiber6 (r : Fin 4) (b : Fin 2) (h : Fin 16) (c : Fin 128) (i : Fin 64) :
    (Finset.univ.filter fun n : S4x2x16x128x64x128.Idx => reducesTo_S4x2x16x128x64x128_S4x2x16x128x64_d5.drop n = ix5 r b h c i)
      = Finset.univ.map ⟨fun k : Fin 128 => (ix6 r b h c i k : S4x2x16x128x64x128.Idx), fun k k' e => congrFun e 5⟩ := by
  ext n
  idx_vars n
  simp only [Finset.mem_filter, Finset.mem_univ, true_and, Finset.mem_map, Function.Embedding.coeFn_mk]
  constructor
  · intro e
    have e0 : n0 = r := congrFun e 0
    have e1 : n1 = b := congrFun e 1
    have e2 : n2 = h := congrFun e 2
    have e3 : n3 = c := congrFun e 3
    have e4 : n4 = i := congrFun e 4
    exact ⟨n5, by rw [e0, e1, e2, e3, e4]; rfl⟩
  · rintro ⟨k, e⟩
    rw [← e]
    funext a
    fin_cases a <;> rfl

/-- The greatest entry along the last axis. -/
theorem max6 (X : FVec Ideal S4x2x16x128x64x128 .f32) (r : Fin 4) (b : Fin 2) (h : Fin 16) (c : Fin 128) (i : Fin 64) :
    Host.reduce FloatOps.maximumf X (constant (F := Ideal) S_ .f32 0xFF800000#32) reducesTo_S4x2x16x128x64x128_S4x2x16x128x64_d5 h_S_ (ix5 r b h c i)
      = Finset.univ.fold max ⊥ fun k => X (ix6 r b h c i k) := by
  refine (Host.reduce_eq_fold (max : EReal → EReal → EReal) X _ _ _ _).trans ?_
  rw [fiber6, Finset.fold_map]
  refine (congrArg (fun z => Finset.fold max z _ _) Spec.neg_inf).trans ?_
  rfl

/-- The sum along the last axis. -/
theorem sum6 (X : S4x2x16x128x64x128.Idx → EReal) (r : Fin 4) (b : Fin 2) (h : Fin 16) (c : Fin 128) (i : Fin 64) :
    Host.reduceAdd (F := Ideal) (φ := .f32) X (constant S_ .f32 0x00000000#32) reducesTo_S4x2x16x128x64x128_S4x2x16x128x64_d5 h_S_ (ix5 r b h c i) = ∑ k, X (ix6 r b h c i k) := by
  unfold Host.reduceAdd
  show Ideal.hostReduceAdd _ _ (Ideal.ofBits .f32 0x00000000#32) _ = _
  rw [Ideal.ofBits_zero_f32]
  refine (zero_add _).trans ?_
  refine (congrArg (fun s => ∑ n ∈ s, X n) (fiber6 r b h c i)).trans ?_
  rw [Finset.sum_map]
  rfl

theorem softMax_v66 (r : Fin 4) (b : Fin 2) (h : Fin 16) (c : Fin 128) (i : Fin 64) (s : Fin 128 → EReal)
   (hs : ∀ k, (V (Proc.devRef .tc main_v65) : S4x2x16x128x64x128.Idx → EReal) (ix6 r b h c i k) = s k) :
    (after softMaxOps V (Proc.devRef .tc main_v66) : S4x2x16x128x64.Idx → EReal) (ix5 r b h c i) = Finset.univ.fold max ⊥ s := by
  obtain rfl := funext hs
  after_reads_simp
  exact max6 _ r b h c i

theorem softExp_v72 (r : Fin 4) (b : Fin 2) (h : Fin 16) (c : Fin 128) (i : Fin 64) (k : Fin 128) (x y : EReal)
   (hx : (V (Proc.devRef .tc main_v65) : S4x2x16x128x64x128.Idx → EReal) (ix6 r b h c i k) = x)
   (hy : (V (Proc.devRef .tc main_v66) : S4x2x16x128x64.Idx → EReal) (ix5 r b h c i) = y) :
    (after softExpOps V (Proc.devRef .tc main_v72) : S4x2x16x128x64x128.Idx → EReal) (ix6 r b h c i k) = Ideal.exp (x - max ⊥ y) := by
  subst hx hy
  after_reads_simp
  pointwise
  rw [Spec.neg_inf]

theorem softSum_v73 (r : Fin 4) (b : Fin 2) (h : Fin 16) (c : Fin 128) (i : Fin 64) (e : Fin 128 → EReal)
   (he : ∀ k, (V (Proc.devRef .tc main_v72) : S4x2x16x128x64x128.Idx → EReal) (ix6 r b h c i k) = e k) :
    (after softSumOps V (Proc.devRef .tc main_v73) : S4x2x16x128x64.Idx → EReal) (ix5 r b h c i) = id (∑ k, e k : EReal) := by
  obtain rfl := funext he
  after_reads_simp
  exact sum6 _ r b h c i

/-- A weighted sum of values, hidden keys left out. -/
def wsum (m : Fin 128 → BitVec 1) (e : Fin 128 → EReal) (t : EReal) (v : Fin 128 → EReal) : EReal :=
  ∑ k, Scalar.select (m k) 0 (Ideal.div (e k) t * v k)

theorem softDot_v80 (r : Fin 4) (b : Fin 2) (h : Fin 16) (l : Fin 8192) (d : Fin 64)
   (m : Fin 128 → BitVec 1) (e : Fin 128 → EReal) (t : EReal) (v : Fin 128 → EReal)
   (hm : ∀ k, (V (Proc.devRef .tc main_v63) : S4x2x16x128x64x128.Idx → BitVec 1) (ix6 r b h ⟨l.1 / 64, by omega⟩ ⟨l.1 % 64, by omega⟩ k) = m k)
   (he : ∀ k, (V (Proc.devRef .tc main_v72) : S4x2x16x128x64x128.Idx → EReal) (ix6 r b h ⟨l.1 / 64, by omega⟩ ⟨l.1 % 64, by omega⟩ k) = e k)
   (ht : (V (Proc.devRef .tc main_v73) : S4x2x16x128x64.Idx → EReal) (ix5 r b h ⟨l.1 / 64, by omega⟩ ⟨l.1 % 64, by omega⟩) = t)
   (hv : ∀ k, (V (Proc.devRef .tc main_v41) : S4x2x16x128x128x64.Idx → EReal) (ix6 r b h ⟨l.1 / 64, by omega⟩ k d) = v k) :
    (after softDotOps V (Proc.devRef .tc main_v80) : S4x2x16x8192x64.Idx → EReal) (ix5 r b h l d) = wsum m e t v := by
  after_reads_simp
  pointwise
  simp only [hm, he, ht, hv]
  rfl

end Cert.Proof.Ref
-- ==== Proof.RefChunk.lean ====
module

public import proofs.«01_k».proof.Proof.RefFrame
public import proofs.«01_k».proof.Proof.SpecLemmas
public import proofs.«01_k».proof.Proof.Gather
public import proofs.«01_k».proof.Proof.Order
public import Idealize.ShloMosaic.Lib.StableHlo.ReadAt
public import Idealize.ShloMosaic.Lib.Pointwise

/-!
# The reference's chunks, entry by entry
-/

@[expose] public section
noncomputable section
set_option maxRecDepth 16384

namespace Cert.Proof.Ref

open Cert.ReferenceIdeal Cert.ReferenceIdeal.Gen Idealize.ShloMosaic Idealize.ShloMosaic.TcCoe
open Idealize.ShloMosaic.StableHlo Idealize.ShloMosaic.Tactic

variable (V : Valuation τ sig (Elt Ideal))

/-- A chunk beside its predecessor, as a function of the rows: a fixed entry where there is no predecessor. -/
def beside {α : Type} (z : α) (x : Fin 8192 → α) (c : Fin 128) (j : Fin 128) : α :=
  if h : 64 ≤ c.1 * 64 + j.1 then x ⟨c.1 * 64 + j.1 - 64, by omega⟩ else z

/-- The two halves of a chunk beside its predecessor. -/
theorem beside_halves {α : Type} (z : α) (x : Fin 8192 → α) (c : Fin 128) (j : Fin 128) (h2 : ¬ j.1 < 64 → c.1 * 64 + (j.1 - 64) < 8192) (h1 : (1 ≤ c.1 ∧ c.1 - 1 < 127) ∧ j.1 < 64 → (c.1 - 1) * 64 + j.1 < 8192) :
    (if h : j.1 < 64 then (if h' : (1 ≤ c.1 ∧ c.1 - 1 < 127) ∧ j.1 < 64 then x ⟨(c.1 - 1) * 64 + j.1, h1 h'⟩ else z) else x ⟨c.1 * 64 + (j.1 - 64), h2 h⟩)
      = beside z x c j := by
  unfold beside
  have := c.2
  by_cases h : j.1 < 64
  · by_cases h' : 1 ≤ c.1
    · rw [dif_pos h, dif_pos ⟨⟨h', by omega⟩, h⟩, dif_pos (by omega)]
      congr 2
      omega
    · rw [dif_pos h, dif_neg (fun e => h' e.1.1), dif_neg (by omega)]
  · rw [dif_neg h, dif_pos (by omega)]
    congr 2
    omega

theorem chunk_v33 (r : Fin 4) (b : Fin 2) (h : Fin 16) (c : Fin 128) (i : Fin 64) (d : Fin 64) :
    (after chunkOps V (Proc.devRef .tc main_v33) : S4x2x16x128x64x64.Idx → EReal) (ix6 r b h c i d)
     = (V (Proc.devRef .tc main_v27) : S4x2x16x8192x64.Idx → EReal) (ix5 r b h ⟨c.1 * 64 + i.1, by omega⟩ d) := by
  after_reads_simp
  pointwise

theorem chunk_v35 (r : Fin 4) (b : Fin 2) (h : Fin 16) (c : Fin 128) (i : Fin 64) :
    (after chunkOps V (Proc.devRef .tc main_v35) : S4x2x16x128x64.Idx → BitVec 32) (ix5 r b h c i)
     = (V (Proc.devRef .tc main_v31) : S4x2x16x8192.Idx → BitVec 32) (ix4 r b h ⟨c.1 * 64 + i.1, by omega⟩) := by
  after_reads_simp
  pointwise

theorem chunk_v38 (X : S4x2x16x8192x64.Idx → EReal) (hX : V (Proc.devRef .tc main_v27) = X)
   (r : Fin 4) (b : Fin 2) (h : Fin 16) (c : Fin 128) (j : Fin 128) (d : Fin 64) :
    (after chunkOps V (Proc.devRef .tc main_v38) : S4x2x16x128x128x64.Idx → EReal) (ix6 r b h c j d)
     = beside (α := EReal) 0 (fun l => X (ix5 r b h l d)) c j := by
  subst hX
  after_reads_simp
  pointwise
  exact beside_halves (α := EReal) 0 (fun l => V (Proc.devRef .tc main_v27) (ix5 r b h l d)) c j (by omega) (by omega)

theorem chunk_v41 (X : S4x2x16x8192x64.Idx → EReal) (hX : V (Proc.devRef .tc main_v29) = X)
   (r : Fin 4) (b : Fin 2) (h : Fin 16) (c : Fin 128) (j : Fin 128) (d : Fin 64) :
    (after chunkOps V (Proc.devRef .tc main_v41) : S4x2x16x128x128x64.Idx → EReal) (ix6 r b h c j d)
     = beside (α := EReal) 0 (fun l => X (ix5 r b h l d)) c j := by
  subst hX
  after_reads_simp
  pointwise
  exact beside_halves (α := EReal) 0 (fun l => V (Proc.devRef .tc main_v29) (ix5 r b h l d)) c j (by omega) (by omega)

theorem chunk_v44 (X : S4x2x16x8192.Idx → BitVec 32) (hX : V (Proc.devRef .tc main_v31) = X)
   (r : Fin 4) (b : Fin 2) (h : Fin 16) (c : Fin 128) (j : Fin 128) :
    (after chunkOps V (Proc.devRef .tc main_v44) : S4x2x16x128x128.Idx → BitVec 32) (ix5 r b h c j)
     = beside (4294967295#32) (fun l => X (ix4 r b h l)) c j := by
  subst hX
  after_reads_simp
  pointwise
  exact beside_halves (4294967295#32) (fun l => V (Proc.devRef .tc main_v31) (ix4 r b h l)) c j (by omega) (by omega)

end Cert.Proof.Ref
-- ==== Proof.RefAttn.lean ====
module

public import proofs.«01_k».proof.Proof.RefMask
public import proofs.«01_k».proof.Proof.RefSoft
public import proofs.«01_k».proof.Proof.RefChunk
public import Idealize.ShloMosaic.Lib.Tactic.WordOmega

/-!
# The reference's attention is the specification's

The reference attends in chunks of 64 rows, each over its own keys and those of the chunk before; the
keys that its mask leaves are the ones that the specification selects.
-/

@[expose] public section
noncomputable section
set_option maxRecDepth 16384

namespace Cert.Proof.Ref

open Cert.ReferenceIdeal Cert.ReferenceIdeal.Gen Idealize.ShloMosaic Idealize.ShloMosaic.TcCoe
open Idealize.ShloMosaic.StableHlo Idealize.ShloMosaic.Tactic

variable (bu : Fin 8192 → BitVec 32) (hb : ∀ l, bu l ≠ 4294967295#32) (l : Fin 8192)

/-- The row that a key of a chunk of two halves is. -/
def win (j : Fin 128) : Fin 8192 := ⟨l.1 / 64 * 64 + j.1 - 64, by omega⟩

/-- Whether there is a row at a key of a chunk of two halves. -/
abbrev there (j : Fin 128) : Prop := 64 ≤ l.1 / 64 * 64 + j.1

theorem win_cover (k : Fin 8192) (h : Spec.sel bu l k) : ∃ j, there l j ∧ win l j = k := by
  have h1 := h.2.1
  have h2 := h.2.2
  refine ⟨⟨k.1 + 64 - l.1 / 64 * 64, by omega⟩, ?_, Fin.ext ?_⟩
  · show 64 ≤ l.1 / 64 * 64 + (k.1 + 64 - l.1 / 64 * 64)
    omega
  · show l.1 / 64 * 64 + (k.1 + 64 - l.1 / 64 * 64) - 64 = k.1
    omega

theorem win_inj (i j : Fin 128) (hi : there l i) (hj : there l j) (h : win l i = win l j) : i = j := by
  have h' : l.1 / 64 * 64 + i.1 - 64 = l.1 / 64 * 64 + j.1 - 64 := congrArg Fin.val h
  have : 64 ≤ l.1 / 64 * 64 + i.1 := hi
  have : 64 ≤ l.1 / 64 * 64 + j.1 := hj
  exact Fin.ext (by omega)

theorem beside_there {α : Type} (z : α) (x : Fin 8192 → α) (j : Fin 128) :
    beside z x ⟨l.1 / 64, by omega⟩ j = if there l j then x (win l j) else z := by
  unfold beside win
  by_cases h : there l j
  · rw [if_pos h]
    exact dif_pos h
  · rw [if_neg h]
    exact dif_neg h

/-- The causal part of the mask. -/
theorem later_eq (i : Fin 64) (j : Fin 128) :
    IntOp.cmpi .sgt (BitVec.ofNat 32 j.1) (IntOp.addi (BitVec.ofNat 32 i.1) 64#32) = if j.1 ≤ i.1 + 64 then 0#1 else 1#1 := by
  have := i.2
  have := j.2
  split
  · word_omega
  · word_omega

theorem cmpi_ne (x y : BitVec 32) : IntOp.cmpi .ne x y = if x = y then 0#1 else 1#1 := by
  by_cases h : x = y
  · simp [h, IntOp.cmpi]
  · have e : (x != y) = true := by simpa using h
    simp [IntOp.cmpi, e, h]

include hb in
/-- The mask hides what the specification does not select. -/
theorem hid_eq (j : Fin 128) :
    hid (bu l) (beside (4294967295#32) bu ⟨l.1 / 64, by omega⟩ j) ⟨l.1 % 64, by omega⟩ j
      = if there l j ∧ Spec.sel bu l (win l j) then 0#1 else 1#1 := by
  unfold hid
  rw [beside_there, later_eq]
  by_cases h : there l j
  · rw [if_pos h]
    have hw : (win l j).1 = l.1 / 64 * 64 + j.1 - 64 := rfl
    have h0 : 64 ≤ l.1 / 64 * 64 + j.1 := h
    have e : Spec.sel bu l (win l j) ↔ bu l = bu (win l j) ∧ j.1 ≤ l.1 % 64 + 64 := by
      unfold Spec.sel
      rw [hw]
      constructor
      · rintro ⟨a, b, -⟩
        exact ⟨a.symm, by omega⟩
      · rintro ⟨a, b⟩
        exact ⟨a.symm, by omega, by omega⟩
    have hn : IntOp.cmpi .eq (bu (win l j)) 4294967295#32 = 0#1 := by
      have e : (bu (win l j) == 4294967295#32) = false := by simpa using hb (win l j)
      simp [IntOp.cmpi, e]
    rw [hn, cmpi_ne]
    simp only [e, h, true_and]
    by_cases h1 : bu l = bu (win l j) <;> by_cases h2 : j.1 ≤ l.1 % 64 + 64 <;> simp [h1, h2, IntOp.ori]
  · have hf : ¬(there l j ∧ Spec.sel bu l (win l j)) := fun hc => h hc.1
    rw [if_neg h, if_neg hf, cmpi_ne, if_neg (hb l)]
    have hn : IntOp.cmpi .eq (4294967295#32) 4294967295#32 = 1#1 := by
      simp [IntOp.cmpi]
    rw [hn]
    by_cases h2 : j.1 ≤ l.1 % 64 + 64 <;> simp [h2, IntOp.ori]

theorem select_ite (p : Prop) [Decidable p] (a b : EReal) : Scalar.select (if p then 0#1 else 1#1) a b = if p then b else a := by
  by_cases h : p <;> simp [h, Scalar.select]

variable (Q U : Fin 8192 → Fin 64 → EReal) (q : Fin 8192 → Fin 64 → ℝ) (hq : ∀ l d, Q l d = (q l d : EReal))

/-- The masked scores of a row. -/
def masked (j : Fin 128) : EReal := if there l j ∧ Spec.sel bu l (win l j) then Spec.score Q l (win l j) else ⊥

/-- The greatest of them is the specification's. -/
theorem masked_top : Finset.univ.fold max ⊥ (masked bu l Q) = Spec.top bu Q l := by
  rw [Spec.fold_sup]
  refine Eq.trans (congrArg (Finset.sup Finset.univ) (funext fun j => ?_))
    (Spec.sup_window (there l) (win l) (fun k => if Spec.sel bu l k then Spec.score Q l k else ⊥)
      (fun k h => win_cover bu l k (by by_contra hc; exact h (if_neg hc))))
  unfold masked
  by_cases h : there l j <;> simp [h]

include hq
/-- The weights are the specification's. -/
theorem masked_wt (j : Fin 128) :
    Ideal.exp (masked bu l Q j - max ⊥ (Spec.top bu Q l)) = if there l j then Spec.wt bu Q l (win l j) else 0 := by
  rw [max_eq_right bot_le]
  unfold masked Spec.wt
  by_cases h : there l j
  · by_cases h' : Spec.sel bu l (win l j)
    · simp only [h, h', and_self, if_true]
    · simp only [h, h', and_false, if_false, if_true]
      exact Spec.exp_bot_sub bu Q q hq l
  · simp only [h, false_and, if_false]
    exact Spec.exp_bot_sub bu Q q hq l

theorem sum_wt : (∑ j : Fin 128, if there l j then Spec.wt bu Q l (win l j) else 0) = ∑ k, Spec.wt bu Q l k :=
  Spec.sum_window (there l) (win l) (win_inj l) (fun k => Spec.wt bu Q l k)
    (fun k h => win_cover bu l k (by by_contra hc; exact h (if_neg hc)))

theorem wsum_attn (m : Fin 128 → BitVec 1) (hm : ∀ j, m j = if there l j ∧ Spec.sel bu l (win l j) then 0#1 else 1#1)
    (v : Fin 128 → EReal) (d : Fin 64) (hv : ∀ j, there l j → v j = U (win l j) d) :
    wsum m (fun j => if there l j then Spec.wt bu Q l (win l j) else 0) (∑ k, Spec.wt bu Q l k) v = Spec.attn bu Q U l d := by
  rw [← Spec.attn_div bu Q U q hq l d]
  obtain ⟨r, hr, hd⟩ := Spec.den_real bu Q q hq l
  have hz : ∀ k, ¬ Spec.sel bu l k → Ideal.div (Spec.wt bu Q l k) (∑ k, Spec.wt bu Q l k) * U k d = 0 := by
    intro k h
    have h0 : Spec.wt bu Q l k = 0 := if_neg h
    rw [h0, hd, Ideal.div_coe hr.ne', zero_mul, zero_mul]
  unfold wsum
  refine Eq.trans (Finset.sum_congr rfl fun j _ => ?_)
    (Spec.sum_window (there l) (win l) (win_inj l) (fun k => Ideal.div (Spec.wt bu Q l k) (∑ k, Spec.wt bu Q l k) * U k d)
      (fun k h => win_cover bu l k (by by_contra hc; exact h (hz k hc))))
  rw [hm, select_ite]
  by_cases h : there l j
  · by_cases h' : Spec.sel bu l (win l j)
    · simp only [h, h', and_self, if_true, hv j h]
    · simp only [h, h', and_false, if_false, if_true]
      exact (hz _ h').symm
  · simp only [h, false_and, if_false]

variable (V : Valuation τ sig (Elt Ideal)) (r : Fin 4) (b : Fin 2) (h : Fin 16)
include hb

/-- The reference's attention of one row. -/
theorem attn_v80 (hQ : ∀ l d, (V (Proc.devRef .tc main_v27) : S4x2x16x8192x64.Idx → EReal) (ix5 r b h l d) = Q l d)
    (hU : ∀ l d, (V (Proc.devRef .tc main_v29) : S4x2x16x8192x64.Idx → EReal) (ix5 r b h l d) = U l d)
    (hB : ∀ l, (V (Proc.devRef .tc main_v31) : S4x2x16x8192.Idx → BitVec 32) (ix4 r b h l) = bu l) (d : Fin 64) :
    (after softOps (after maskOps (after scoreOps (after chunkOps V))) (Proc.devRef .tc main_v80) : S4x2x16x8192x64.Idx → EReal) (ix5 r b h l d)
      = Spec.attn bu Q U l d := by
  have hl : l.1 / 64 * 64 + l.1 % 64 = l.1 := by omega
  have e33 : ∀ (i : Fin 64) d, (after chunkOps V (Proc.devRef .tc main_v33) : S4x2x16x128x64x64.Idx → EReal) (ix6 r b h ⟨l.1 / 64, by omega⟩ i d)
      = Q ⟨l.1 / 64 * 64 + i.1, by omega⟩ d := fun i d => (chunk_v33 V r b h _ i d).trans (hQ _ d)
  have e35 : ∀ i : Fin 64, (after chunkOps V (Proc.devRef .tc main_v35) : S4x2x16x128x64.Idx → BitVec 32) (ix5 r b h ⟨l.1 / 64, by omega⟩ i)
      = bu ⟨l.1 / 64 * 64 + i.1, by omega⟩ := fun i => (chunk_v35 V r b h _ i).trans (hB _)
  have e38 : ∀ (j : Fin 128) d, (after chunkOps V (Proc.devRef .tc main_v38) : S4x2x16x128x128x64.Idx → EReal) (ix6 r b h ⟨l.1 / 64, by omega⟩ j d)
      = beside (α := EReal) 0 (fun l => Q l d) ⟨l.1 / 64, by omega⟩ j :=
    fun j d => (chunk_v38 V _ rfl r b h _ j d).trans (congrArg (fun f => beside (α := EReal) 0 f _ j) (funext fun l => hQ l d))
  have e41 : ∀ (j : Fin 128) d, (after chunkOps V (Proc.devRef .tc main_v41) : S4x2x16x128x128x64.Idx → EReal) (ix6 r b h ⟨l.1 / 64, by omega⟩ j d)
      = beside (α := EReal) 0 (fun l => U l d) ⟨l.1 / 64, by omega⟩ j :=
    fun j d => (chunk_v41 V _ rfl r b h _ j d).trans (congrArg (fun f => beside (α := EReal) 0 f _ j) (funext fun l => hU l d))
  have e44 : ∀ (j : Fin 128), (after chunkOps V (Proc.devRef .tc main_v44) : S4x2x16x128x128.Idx → BitVec 32) (ix5 r b h ⟨l.1 / 64, by omega⟩ j)
      = beside (4294967295#32) bu ⟨l.1 / 64, by omega⟩ j :=
    fun j => (chunk_v44 V _ rfl r b h _ j).trans (congrArg (fun f => beside (4294967295#32) f _ j) (funext fun l => hB l))
  generalize hU1 : after chunkOps V = U1 at *
  have m63 := fun j => mask_v63 U1 _ _ r b h _ e35 e44 ⟨l.1 % 64, by omega⟩ j
  have m65 := fun j => mask_v65 U1 _ _ r b h _ e35 e44 _ _ e33 e38 ⟨l.1 % 64, by omega⟩ j
  have k41 : after maskOps (after scoreOps U1) (Proc.devRef .tc main_v41) = U1 (Proc.devRef .tc main_v41) := by
    rw [mask_keep _ (by decide), score_keep _ (by decide)]
  generalize hU3 : after maskOps (after scoreOps U1) = U3 at *
  have hm : ∀ j, hid (bu ⟨l.1 / 64 * 64 + l.1 % 64, by omega⟩) (beside (4294967295#32) bu ⟨l.1 / 64, by omega⟩ j) ⟨l.1 % 64, by omega⟩ j
      = if there l j ∧ Spec.sel bu l (win l j) then 0#1 else 1#1 := by
    intro j
    have : (⟨l.1 / 64 * 64 + l.1 % 64, by omega⟩ : Fin 8192) = l := Fin.ext hl
    rw [this]
    exact hid_eq bu hb l j
  have hs : ∀ j, (U3 (Proc.devRef .tc main_v65) : S4x2x16x128x64x128.Idx → EReal) (ix6 r b h ⟨l.1 / 64, by omega⟩ ⟨l.1 % 64, by omega⟩ j) = masked bu l Q j := by
    intro j
    rw [m65 j, hm j, select_ite, Spec.neg_inf]
    unfold masked
    by_cases hj : there l j ∧ Spec.sel bu l (win l j)
    · rw [if_pos hj, if_pos hj]
      unfold Spec.score
      refine congrArg (fun z => Ideal.div z _) (Finset.sum_congr rfl fun d _ => ?_)
      rw [beside_there, if_pos hj.1]
      exact congrArg (fun z => Q z d * _) (Fin.ext hl)
    · rw [if_neg hj, if_neg hj]
  unfold softOps
  rw [after_two, after_two, after_two]
  have s66 := (softMax_v66 U3 r b h _ _ _ hs).trans (masked_top bu l Q)
  have k65 : ∀ j, (after softMaxOps U3 (Proc.devRef .tc main_v65) : S4x2x16x128x64x128.Idx → EReal) (ix6 r b h ⟨l.1 / 64, by omega⟩ ⟨l.1 % 64, by omega⟩ j) = masked bu l Q j := by
    intro j
    rw [after_unwritten [main_cst_6, main_v66] rfl (by decide)]
    exact hs j
  have s72 := fun j => (softExp_v72 (after softMaxOps U3) r b h _ _ j _ _ (k65 j) s66).trans (masked_wt bu l Q q hq j)
  have s73 := (softSum_v73 (after softExpOps (after softMaxOps U3)) r b h _ _ _ s72).trans (sum_wt bu l Q q hq)
  refine (softDot_v80 _ r b h l d (fun j => hid (bu ⟨l.1 / 64 * 64 + l.1 % 64, by omega⟩) (beside (4294967295#32) bu ⟨l.1 / 64, by omega⟩ j) ⟨l.1 % 64, by omega⟩ j)
    (fun j => if there l j then Spec.wt bu Q l (win l j) else 0) _ (fun j => beside (α := EReal) 0 (fun l => U l d) ⟨l.1 / 64, by omega⟩ j) (fun j => ?_) (fun j => ?_) s73 (fun j => ?_)).trans
    (wsum_attn bu l Q U q hq _ hm _ d (fun j hj => ?_))
  · rw [after_unwritten [main_cst_8, main_v73] rfl (by decide), after_unwritten [main_cst_7, main_v67, main_v68, main_v69, main_v70, main_v71, main_v72] rfl (by decide),
      after_unwritten [main_cst_6, main_v66] rfl (by decide)]
    exact m63 j
  · rw [after_unwritten [main_cst_8, main_v73] rfl (by decide)]
    exact s72 j
  · rw [after_unwritten [main_cst_8, main_v73] rfl (by decide), after_unwritten [main_cst_7, main_v67, main_v68, main_v69, main_v70, main_v71, main_v72] rfl (by decide),
      after_unwritten [main_cst_6, main_v66] rfl (by decide), k41]
    exact e41 j d
  · exact (beside_there l 0 (fun l => U l d) j).trans (if_pos hj)

end Cert.Proof.Ref
-- ==== Proof.RefPost.lean ====
module

public import proofs.«01_k».proof.Proof.RefFrame
public import proofs.«01_k».proof.Proof.Spec
public import proofs.«01_k».proof.Proof.Gather
public import Idealize.ShloMosaic.Lib.StableHlo.ReadAt
public import Idealize.ShloMosaic.Lib.Pointwise

/-!
# The reference's last projection, entry by entry
-/

@[expose] public section
noncomputable section
set_option maxRecDepth 16384

namespace Cert.Proof.Ref

open Cert.ReferenceIdeal Cert.ReferenceIdeal.Gen Idealize.ShloMosaic Idealize.ShloMosaic.TcCoe
open Idealize.ShloMosaic.StableHlo Idealize.ShloMosaic.Tactic

variable (V : Valuation τ sig (Elt Ideal))

theorem post_v92 (b : Fin 2) (l : Fin 8192) (j : Fin 1024) :
    (after postOps V (Proc.devRef .tc main_v92) : S2x8192x1024.Idx → EReal) (ix3 b l j)
     = Spec.proj (fun r k => (V (Proc.devRef .tc main_arg5) : S1024x1024.Idx → EReal) (ix2 r k))
       (fun r => (V (Proc.devRef .tc main_arg6) : S1024.Idx → EReal) (ix1 r))
       (fun k => Ideal.div ((V (Proc.devRef .tc main_v83) : S2x16x8192x64.Idx → EReal) (ix4 b ⟨k.1 / 64, by omega⟩ l ⟨k.1 % 64, by omega⟩)) (Ideal.ofBits .f32 0x40800000#32)) j := by
  after_reads_simp
  pointwise
  rfl

/-- The sum over the rounds of the rows that are read back. -/
def backSum (X : S4x2x16x8192x64.Idx → EReal) (n : Fin 4 → Fin 2 → Fin 16 → Fin 8192 → Fin 8192) (b : Fin 2) (h : Fin 16) (l : Fin 8192) (d : Fin 64) : EReal :=
  ∑ r : Fin 4, X (ix5 r b h (n r b h l) d)

theorem back_v83 (n : Fin 4 → Fin 2 → Fin 16 → Fin 8192 → Fin 8192)
   (hn : ∀ r b h l, (V (Proc.devRef .tc main_v32) : S4x2x16x8192.Idx → BitVec 32) (ix4 r b h l) = BitVec.ofNat 32 (n r b h l).1)
   (X : S4x2x16x8192x64.Idx → EReal) (hX : V (Proc.devRef .tc main_v80) = X)
   (b : Fin 2) (h : Fin 16) (l : Fin 8192) (d : Fin 64) :
    (after backOps V (Proc.devRef .tc main_v83) : S2x16x8192x64.Idx → EReal) (ix4 b h l d)
     = backSum X n b h l d := by
  subst hX
  have key (r : Fin 4) : Host.gather gather_S4x2x16x8192x64_S4x2x16x8192x1_S4x2x16x8192x64_4_3_012_012_3_4_111164 (V (Proc.devRef .tc main_v80))
      (broadcastInDim S4x2x16x8192x1 ![0, 1, 2, 3] bcast_S4x2x16x8192_S4x2x16x8192x1_0_1_2_3 (V (Proc.devRef .tc main_v32))) (ix5 r b h l d)
      = (V (Proc.devRef .tc main_v80) : S4x2x16x8192x64.Idx → EReal) (ix5 r b h (n r b h l) d) := by
    refine Take.takeB _ _ _ r b h l d (n r b h l) ?_
    pointwise
    exact hn r b h l
  after_reads_simp
  pointwise
  simp only [key]
  rfl

end Cert.Proof.Ref
-- ==== Proof.Layer.lean ====
module

public import proofs.«01_k».proof.Proof.SpecLemmas

/-!
# The whole layer

What kernel and reference both return, as a function of the eight arrays.
-/

@[expose] public section
noncomputable section

namespace Cert.Proof.Layer

open Idealize.ShloMosaic

/-- The rows of one head: a projection of the input's rows. -/
def heads (x : (⟨3, ![2, 8192, 1024]⟩ : Shape).Idx → EReal) (w : (⟨2, ![1024, 1024]⟩ : Shape).Idx → EReal) (a : (⟨1, ![1024]⟩ : Shape).Idx → EReal)
    (b : Fin 2) (h : Fin 16) (l : Fin 8192) (d : Fin 64) : EReal :=
  Spec.proj (fun c k => w (ix2 c k)) (fun c => a (ix1 c)) (fun k => x (ix3 b l k)) (Spec.col h d)

/-- One round's projections of one head. -/
def rot (p : (⟨4, ![4, 16, 64, 32]⟩ : Shape).Idx → EReal) (r : Fin 4) (h : Fin 16) (d : Fin 64) (e : Fin 32) : EReal := p (ix4 r h d e)

/-- An entry of the result. -/
def out (x : (⟨3, ![2, 8192, 1024]⟩ : Shape).Idx → EReal) (wq : (⟨2, ![1024, 1024]⟩ : Shape).Idx → EReal) (aq : (⟨1, ![1024]⟩ : Shape).Idx → EReal)
    (wv : (⟨2, ![1024, 1024]⟩ : Shape).Idx → EReal) (av : (⟨1, ![1024]⟩ : Shape).Idx → EReal)
    (wo : (⟨2, ![1024, 1024]⟩ : Shape).Idx → EReal) (ao : (⟨1, ![1024]⟩ : Shape).Idx → EReal)
    (p : (⟨4, ![4, 16, 64, 32]⟩ : Shape).Idx → EReal) (b : Fin 2) (l : Fin 8192) (j : Fin 1024) : EReal :=
  Spec.proj (fun c k => wo (ix2 c k)) (fun c => ao (ix1 c))
    (fun k => Spec.head (fun r => rot p r ⟨k.1 / 64, by omega⟩) (heads x wq aq b ⟨k.1 / 64, by omega⟩) (heads x wv av b ⟨k.1 / 64, by omega⟩) l ⟨k.1 % 64, by omega⟩) j

/-- A projection of real rows by a real matrix and a real bias is real. -/
theorem heads_real (x : (⟨3, ![2, 8192, 1024]⟩ : Shape).Idx → EReal) (w : (⟨2, ![1024, 1024]⟩ : Shape).Idx → EReal) (a : (⟨1, ![1024]⟩ : Shape).Idx → EReal)
    (hx : ∀ i, ∃ r : ℝ, x i = (r : EReal)) (hw : ∀ i, ∃ r : ℝ, w i = (r : EReal)) (ha : ∀ i, ∃ r : ℝ, a i = (r : EReal))
    (b : Fin 2) (h : Fin 16) (l : Fin 8192) (d : Fin 64) : ∃ r : ℝ, heads x w a b h l d = (r : EReal) := by
  choose x' hx' using hx
  choose w' hw' using hw
  choose a' ha' using ha
  refine ⟨(∑ k, x' (ix3 b l k) * w' (ix2 (Spec.col h d) k)) + a' (ix1 (Spec.col h d)), ?_⟩
  unfold heads Spec.proj
  simp only [hx', hw', ha']
  rw [EReal.coe_add, Spec.coe_sum]
  simp only [EReal.coe_mul]

end Cert.Proof.Layer
-- ==== Proof.RefVal.lean ====
module

public import proofs.«01_k».proof.Proof.RefPre
public import proofs.«01_k».proof.Proof.RefHash
public import proofs.«01_k».proof.Proof.RefGath
public import proofs.«01_k».proof.Proof.RefAttn
public import proofs.«01_k».proof.Proof.RefPost
public import proofs.«01_k».proof.Proof.Layer

/-!
# What the reference returns

Its projections, the orders of all rounds, the sorted rows, their attention, the way back, the mean of
the rounds and the output projection, one after the other.
-/

@[expose] public section
noncomputable section
set_option maxRecDepth 16384

namespace Cert.Proof.Ref

open Cert.ReferenceIdeal Cert.ReferenceIdeal.Gen Idealize.ShloMosaic Idealize.ShloMosaic.TcCoe
open Idealize.ShloMosaic.StableHlo Idealize.ShloMosaic.Tactic

variable (V : Valuation τ sig (Elt Ideal))

/-- The queries, which are the keys too. -/
abbrev Qv : Fin 2 → Fin 16 → Fin 8192 → Fin 64 → EReal :=
  Layer.heads (V (Proc.devRef .tc main_arg0)) (V (Proc.devRef .tc main_arg1)) (V (Proc.devRef .tc main_arg2))
/-- The values. -/
abbrev Uv : Fin 2 → Fin 16 → Fin 8192 → Fin 64 → EReal :=
  Layer.heads (V (Proc.devRef .tc main_arg0)) (V (Proc.devRef .tc main_arg3)) (V (Proc.devRef .tc main_arg4))
/-- The rounds' projections. -/
abbrev Rv : Fin 4 → Fin 16 → Fin 64 → Fin 32 → EReal := Layer.rot (V (Proc.devRef .tc main_arg7))
/-- The sorted orders. -/
abbrev sv (r : Fin 4) (b : Fin 2) (h : Fin 16) : Fin 8192 → Fin 8192 := Spec.srt (Rv V r h) (Qv V b h)

theorem rows_v11 (b : Fin 2) (h : Fin 16) (l : Fin 8192) (d : Fin 64) :
    (after preOps V (Proc.devRef .tc main_v11) : S2x16x8192x64.Idx → EReal) (ix4 b h l d) = Qv V b h l d := pre_v11 V b h l d
theorem rows_v13 (b : Fin 2) (h : Fin 16) (l : Fin 8192) (d : Fin 64) :
    (after preOps V (Proc.devRef .tc main_v13) : S2x16x8192x64.Idx → EReal) (ix4 b h l d) = Uv V b h l d := pre_v13 V b h l d

theorem buckets (r : Fin 4) (b : Fin 2) (h : Fin 16) : bk (after preOps V) r b h = Spec.bkt (Rv V r h) (Qv V b h) := by
  unfold bk
  refine congrArg₂ Spec.bkt ?_ ?_
  · rw [pre_keep V (r := main_arg7) (by decide)]
    rfl
  · exact funext₂ fun l d => rows_v11 V b h l d

theorem order_v25 (r : Fin 4) (b : Fin 2) (h : Fin 16) (l : Fin 8192) :
    (after hashOps (after preOps V) (Proc.devRef .tc main_v25) : S4x2x16x8192.Idx → BitVec 32) (ix4 r b h l) = BitVec.ofNat 32 (sv V r b h l).1 := by
  refine (hash_v25 (after preOps V) r b h l).trans ?_
  rw [buckets]
  rfl

theorem bucket_v19 (r : Fin 4) (b : Fin 2) (h : Fin 16) (l : Fin 8192) :
    (after hashOps (after preOps V) (Proc.devRef .tc main_v19) : S4x2x16x8192.Idx → BitVec 32) (ix4 r b h l) = Spec.bkt (Rv V r h) (Qv V b h) l := by
  refine (hash_v19 (after preOps V) r b h l).trans ?_
  rw [buckets]

/-- The contents when the rows are sorted. -/
abbrev Vg : Valuation τ sig (Elt Ideal) := after gathOps (after hashOps (after preOps V))
/-- The contents when the sorted rows have been attended to. -/
abbrev Vs : Valuation τ sig (Elt Ideal) := after softOps (after maskOps (after scoreOps (after chunkOps (Vg V))))

theorem sorted_v27 (r : Fin 4) (b : Fin 2) (h : Fin 16) (l : Fin 8192) (d : Fin 64) :
    (Vg V (Proc.devRef .tc main_v27) : S4x2x16x8192x64.Idx → EReal) (ix5 r b h l d) = Qv V b h (sv V r b h l) d := by
  refine (gath_v27 _ (sv V) (order_v25 V) r b h l d).trans ?_
  rw [hash_keep (after preOps V) (r := main_v11) (by decide)]
  exact rows_v11 V b h _ d

theorem sorted_v29 (r : Fin 4) (b : Fin 2) (h : Fin 16) (l : Fin 8192) (d : Fin 64) :
    (Vg V (Proc.devRef .tc main_v29) : S4x2x16x8192x64.Idx → EReal) (ix5 r b h l d) = Uv V b h (sv V r b h l) d := by
  refine (gath_v29 _ (sv V) (order_v25 V) r b h l d).trans ?_
  rw [hash_keep (after preOps V) (r := main_v13) (by decide)]
  exact rows_v13 V b h _ d

theorem sorted_v31 (r : Fin 4) (b : Fin 2) (h : Fin 16) (l : Fin 8192) :
    (Vg V (Proc.devRef .tc main_v31) : S4x2x16x8192.Idx → BitVec 32) (ix4 r b h l) = Spec.bkt (Rv V r h) (Qv V b h) (sv V r b h l) :=
  (gath_v31 _ (sv V) (order_v25 V) r b h l).trans (bucket_v19 V r b h _)

theorem args_keep (r : Ref sig .tc) (h1 : r ∉ preW) (h2 : r ∉ hashW) (h3 : r ∉ gathW) (h4 : r ∉ chunkW) (h5 : r ∉ scoreW) (h6 : r ∉ maskW)
    (h7 : r ∉ softW) (h8 : r ∉ backW) : after backOps (Vs V) (Proc.devRef .tc r) = V (Proc.devRef .tc r) := by
  unfold Vs Vg
  rw [back_keep _ h8, soft_keep _ h7, mask_keep _ h6, score_keep _ h5, chunk_keep _ h4, gath_keep _ h3, hash_keep _ h2, pre_keep _ h1]

/-- Back in the order of the rows: where each row is after its sort. -/
abbrev inv (r : Fin 4) (b : Fin 2) (h : Fin 16) (l : Fin 8192) : Fin 8192 := Spec.ord (fun p => BitVec.ofNat 32 (sv V r b h p).1) l

theorem inv_v32 (r : Fin 4) (b : Fin 2) (h : Fin 16) (l : Fin 8192) :
    (Vs V (Proc.devRef .tc main_v32) : S4x2x16x8192.Idx → BitVec 32) (ix4 r b h l) = BitVec.ofNat 32 (inv V r b h l).1 := by
  unfold Vs
  rw [soft_keep _ (r := main_v32) (by decide), mask_keep _ (r := main_v32) (by decide), score_keep _ (r := main_v32) (by decide),
    chunk_keep _ (r := main_v32) (by decide)]
  exact (gath_v32 _ r b h l).trans (congrArg (fun w => Spec.ordW w l) (funext fun p => order_v25 V r b h p))

variable (q : Fin 2 → Fin 16 → Fin 8192 → Fin 64 → ℝ) (hq : ∀ b h l d, Qv V b h l d = (q b h l d : EReal))
include hq

theorem attn_rows (r : Fin 4) (b : Fin 2) (h : Fin 16) (l : Fin 8192) (d : Fin 64) :
    (Vs V (Proc.devRef .tc main_v80) : S4x2x16x8192x64.Idx → EReal) (ix5 r b h l d) = Spec.sortedRound (Rv V r h) (Qv V b h) (Uv V b h) l d := by
  unfold Spec.sortedRound
  exact attn_v80 (fun p => Spec.bkt (Rv V r h) (Qv V b h) (sv V r b h p)) (fun p => Order.amax_ne _) l
    (fun p d => Qv V b h (sv V r b h p) d) (fun p d => Uv V b h (sv V r b h p) d) (fun p d => q b h (sv V r b h p) d) (fun p d => hq b h _ d)
    (Vg V) r b h (sorted_v27 V r b h) (sorted_v29 V r b h) (sorted_v31 V r b h) d

theorem mean_v83 (b : Fin 2) (h : Fin 16) (l : Fin 8192) (d : Fin 64) :
    Ideal.div ((after backOps (Vs V) (Proc.devRef .tc main_v83) : S2x16x8192x64.Idx → EReal) (ix4 b h l d)) (Ideal.ofBits .f32 0x40800000#32)
     = Spec.head (fun r => Rv V r h) (Qv V b h) (Uv V b h) l d := by
  unfold Spec.head
  refine congrArg₂ Ideal.div ?_ rfl
  have e : backSum (Vs V (Proc.devRef .tc main_v80)) (inv V) b h l d = ∑ r : Fin 4, Spec.round (Rv V r h) (Qv V b h) (Uv V b h) l d := by
    unfold backSum
    exact Finset.sum_congr rfl fun r _ => attn_rows V q hq r b h _ d
  exact (back_v83 (Vs V) (inv V) (inv_v32 V) _ rfl b h l d).trans e

/-- The reference's result. -/
theorem out_v92 (b : Fin 2) (l : Fin 8192) (j : Fin 1024) :
    (after (partOps0 ++ partOps1) V (Proc.devRef .tc main_v92) : S2x8192x1024.Idx → EReal) (ix3 b l j)
     = Layer.out (V (Proc.devRef .tc main_arg0)) (V (Proc.devRef .tc main_arg1)) (V (Proc.devRef .tc main_arg2))
       (V (Proc.devRef .tc main_arg3)) (V (Proc.devRef .tc main_arg4)) (V (Proc.devRef .tc main_arg5))
       (V (Proc.devRef .tc main_arg6)) (V (Proc.devRef .tc main_arg7)) b l j := by
  rw [after_all]
  refine (post_v92 _ b l j).trans ?_
  rw [args_keep V main_arg5 (by decide) (by decide) (by decide) (by decide) (by decide) (by decide) (by decide) (by decide),
    args_keep V main_arg6 (by decide) (by decide) (by decide) (by decide) (by decide) (by decide) (by decide) (by decide)]
  unfold Layer.out
  refine congrArg (fun x => Spec.proj _ _ x j) (funext fun k => ?_)
  exact mean_v83 V q hq b _ l _

end Cert.Proof.Ref
-- ==== Proof.KerTake.lean ====
module

public import proofs.«01_k».proof.Proof.Gen.KernelIdeal
public import proofs.«01_k».proof.Proof.Gather
public import proofs.«01_k».proof.Proof.Order
public import proofs.«01_k».proof.Proof.SpecLemmas
public import Idealize.ShloMosaic.Lib.Pointwise
public import Idealize.ShloMosaic.Lib.Tactic.WordOmega

/-!
# The kernel's host functions, entry by entry

The checked reads of rows by an index, the search for the greatest entry and the sort.
-/

@[expose] public section
noncomputable section
set_option maxRecDepth 16384

namespace Cert.Proof.Ker

open Cert.KernelIdeal Cert.KernelIdeal.Gen Idealize.ShloMosaic Idealize.ShloMosaic.TcCoe
open Idealize.ShloMosaic.Tactic

/-- A row number is not wrapped. -/
theorem wrap_eq (n : Fin 8192) :
    Scalar.select (IntOp.cmpi .slt (BitVec.ofNat 32 n.1) 0#32) (IntOp.addi (BitVec.ofNat 32 n.1) 8192#32) (BitVec.ofNat 32 n.1) = BitVec.ofNat 32 n.1 := by
  have := n.2
  have h : IntOp.cmpi .slt (BitVec.ofNat 32 n.1) 0#32 = 0#1 := by word_omega
  rw [h]
  rfl

/-- A row number is in range. -/
theorem inr_eq (n : Fin 8192) :
    IntOp.andi (IntOp.cmpi .sge (BitVec.ofNat 32 n.1) 0#32) (IntOp.cmpi .sle (BitVec.ofNat 32 n.1) 8191#32) = 1#1 := by
  have := n.2
  have h : IntOp.cmpi .sge (BitVec.ofNat 32 n.1) 0#32 = 1#1 := by word_omega
  have h' : IntOp.cmpi .sle (BitVec.ofNat 32 n.1) 8191#32 = 1#1 := by word_omega
  rw [h, h']
  rfl

/-- A choice that is made. -/
theorem select_one {α : Type} (a b : α) : Scalar.select 1#1 a b = a := rfl

/-- The conjunction of one bit. -/
theorem fold_one (f : Fin 1 → BitVec 1) : Finset.fold IntOp.andi 1#1 f Finset.univ = IntOp.andi (f 0) 1#1 := by
  rw [Finset.univ_unique, Finset.fold_singleton]
  rfl

/-- Indices of one round, negative ones wrapped. -/
def wrap2 (i : IVec S2x16x8192 32) : IVec S2x16x8192x1 32 :=
  shapeCast S2x16x8192x1 (select (cmpi .slt i (broadcastInDim S2x16x8192 ![] bcast_S_S2x16x8192 (constantI S_ 32 0#32)))
    (addi i (broadcastInDim S2x16x8192 ![] bcast_S_S2x16x8192 (constantI S_ 32 8192#32))) i) shapeCasts_S2x16x8192_S2x16x8192x1

/-- Entries of one round taken by an index, a fixed word where the index is out of range. -/
def take2 (x i : IVec S2x16x8192 32) : IVec S2x16x8192 32 :=
  select (Host.reduce IntOp.andi (andi (cmpi .sge (wrap2 i) (broadcastInDim S2x16x8192x1 ![] bcast_S_S2x16x8192x1 (constantI S_ 32 0#32)))
      (cmpi .sle (wrap2 i) (broadcastInDim S2x16x8192x1 ![0, 1, 2, 3] bcast_S1x1x1x1_S2x16x8192x1_0_1_2_3
        (broadcastInDim S1x1x1x1 ![3] bcast_S1_S1x1x1x1_3 (constantI S1 32 8191#32))))) (constantI S_ 1 1#1) reducesTo_S2x16x8192x1_S2x16x8192_d3 h_S_)
    (Host.gather gather_S2x16x8192_S2x16x8192x1_S2x16x8192_n_2_01_01_2_3_111 x (wrap2 i))
    (broadcastInDim S2x16x8192 ![] bcast_S_S2x16x8192 (constantI S_ 32 2147483648#32))

theorem wrap2_apply (i : IVec S2x16x8192 32) (b : Fin 2) (h : Fin 16) (l : Fin 8192) (n : Fin 8192) (hn : i (ix3 b h l) = BitVec.ofNat 32 n.1) :
    wrap2 i (ix4 b h l 0) = BitVec.ofNat 32 n.1 := by
  pointwise [wrap2]
  rw [hn]
  exact wrap_eq n

theorem take2_apply (x i : IVec S2x16x8192 32) (b : Fin 2) (h : Fin 16) (l : Fin 8192) (n : Fin 8192) (hn : i (ix3 b h l) = BitVec.ofNat 32 n.1) :
    take2 x i (ix3 b h l) = x (ix3 b h n) := by
  pointwise [take2]
  rw [fold_one, wrap2_apply i b h l n hn, inr_eq]
  exact Take.takeD _ _ _ b h l n (wrap2_apply i b h l n hn)

/-- Indices of every round, negative ones wrapped. -/
def wrap4 (i : IVec S4x2x16x8192x1 32) : IVec S4x2x16x8192x1 32 :=
  select (cmpi .slt i (broadcastInDim S4x2x16x8192x1 ![] bcast_S_S4x2x16x8192x1 (constantI S_ 32 0#32)))
    (addi i (broadcastInDim S4x2x16x8192x1 ![] bcast_S_S4x2x16x8192x1 (constantI S_ 32 8192#32))) i

/-- Where the indices are in range. -/
def inr4 (i : IVec S4x2x16x8192x1 32) : IVec S4x2x16x8192x64 1 :=
  broadcastInDim S4x2x16x8192x64 ![0, 1, 2, 3] bcast_S4x2x16x8192_S4x2x16x8192x64_0_1_2_3
   (Host.reduce IntOp.andi (andi (cmpi .sge (wrap4 i) (broadcastInDim S4x2x16x8192x1 ![] bcast_S_S4x2x16x8192x1 (constantI S_ 32 0#32)))
      (cmpi .sle (wrap4 i) (broadcastInDim S4x2x16x8192x1 ![0, 1, 2, 3, 4] bcast_S1x1x1x1x1_S4x2x16x8192x1_0_1_2_3_4
        (broadcastInDim S1x1x1x1x1 ![4] bcast_S1_S1x1x1x1x1_4 (constantI S1 32 8191#32))))) (constantI S_ 1 1#1) reducesTo_S4x2x16x8192x1_S4x2x16x8192_d4 h_S_)

theorem wrap4_apply (i : IVec S4x2x16x8192x1 32) (r : Fin 4) (b : Fin 2) (h : Fin 16) (l : Fin 8192) (n : Fin 8192) (hn : i (ix5 r b h l 0) = BitVec.ofNat 32 n.1) :
    wrap4 i (ix5 r b h l 0) = BitVec.ofNat 32 n.1 := by
  pointwise [wrap4]
  rw [hn]
  exact wrap_eq n

theorem inr4_apply (i : IVec S4x2x16x8192x1 32) (r : Fin 4) (b : Fin 2) (h : Fin 16) (l : Fin 8192) (d : Fin 64) (n : Fin 8192) (hn : i (ix5 r b h l 0) = BitVec.ofNat 32 n.1) :
    inr4 i (ix5 r b h l d) = 1#1 := by
  pointwise [inr4]
  rw [fold_one, wrap4_apply i r b h l n hn, inr_eq]
  rfl

/-- Rows of one table taken for every round. -/
def takeRows (x : FVec Ideal S1x2x16x8192x64 .f32) (i : IVec S4x2x16x8192x1 32) : FVec Ideal S4x2x16x8192x64 .f32 :=
  select (inr4 i) (Host.gather gather_S2x16x8192x64_S4x2x16x8192x1_S4x2x16x8192x64_4_2_01_12_2_4_11164
      (shapeCast S2x16x8192x64 x shapeCasts_S1x2x16x8192x64_S2x16x8192x64) (wrap4 i))
    (broadcastInDim S4x2x16x8192x64 ![] bcast_S_S4x2x16x8192x64 (constant S_ .f32 0x7FC00000#32))

/-- Rows of every round's own table. -/
def takeBack (x : FVec Ideal S4x2x16x8192x64 .f32) (i : IVec S4x2x16x8192x1 32) : FVec Ideal S4x2x16x8192x64 .f32 :=
  select (inr4 i) (Host.gather gather_S4x2x16x8192x64_S4x2x16x8192x1_S4x2x16x8192x64_4_3_012_012_3_4_111164 x (wrap4 i))
    (broadcastInDim S4x2x16x8192x64 ![] bcast_S_S4x2x16x8192x64 (constant S_ .f32 0x7FC00000#32))

theorem takeRows_apply (x : FVec Ideal S1x2x16x8192x64 .f32) (i : IVec S4x2x16x8192x1 32) (r : Fin 4) (b : Fin 2) (h : Fin 16) (l : Fin 8192) (d : Fin 64)
    (n : Fin 8192) (hn : i (ix5 r b h l 0) = BitVec.ofNat 32 n.1) :
    takeRows x i (ix5 r b h l d) = x (ix5 0 b h n d) := by
  pointwise [takeRows]
  rw [inr4_apply i r b h l d n hn, select_one]
  refine (Take.takeA _ _ _ r b h l d n (wrap4_apply i r b h l n hn)).trans ?_
  pointwise

theorem takeBack_apply (x : FVec Ideal S4x2x16x8192x64 .f32) (i : IVec S4x2x16x8192x1 32) (r : Fin 4) (b : Fin 2) (h : Fin 16) (l : Fin 8192) (d : Fin 64)
    (n : Fin 8192) (hn : i (ix5 r b h l 0) = BitVec.ofNat 32 n.1) :
    takeBack x i (ix5 r b h l d) = x (ix5 r b h n d) := by
  pointwise [takeBack]
  rw [inr4_apply i r b h l d n hn, select_one]
  exact Take.takeB _ _ _ r b h l d n (wrap4_apply i r b h l n hn)

/-- The printed choice of the better of two entries. -/
theorem reducer_eq : (reducer_argmax_f32_i32 : Ideal .f32 × BitVec 32 → _) = Spec.pick := by
  funext p q
  unfold reducer_argmax_f32_i32 Spec.pick
  dsimp only
  simp only [Ideal.cmpf_def, Ideal.cmp, IntOp.cmpi, IntOp.ori, IntOp.andi, Scalar.select]
  by_cases h1 : q.1 < p.1
  · simp [h1, ne_of_gt h1]
  · by_cases h2 : p.1 = q.1
    · by_cases h3 : p.2.toInt < q.2.toInt <;> simp [h2, h3, BitVec.slt, Prod.ext_iff]
    · simp [h1, h2]

/-- The bucket of a row of one round. -/
theorem argmax_apply (x : FVec Ideal S2x16x8192x64 .f32) (y : IVec S2x16x8192x64 32) (ix : FVec Ideal S_ .f32) (iy : IVec S_ 32) (hix : ix (Shape.Idx.first h_S_) = ⊥) (hiy : iy (Shape.Idx.first h_S_) = 0#32)
    (b : Fin 2) (h : Fin 16) (l : Fin 8192) (hy : ∀ k, y (ix4 b h l k) = BitVec.ofNat 32 k.1) :
    (Host.argReduce reducer_argmax_f32_i32 x y ix iy reducesTo_S2x16x8192x64_S2x16x8192_d3 h_S_ (ix3 b h l)).2 = Spec.amax fun j => x (ix4 b h l j) := by
  refine Order.argmax_eq _ reducer_eq _ _ _ _ _ _ _ hix hiy (fun k => ix4 b h l k) (fun k => ?_) (fun i e => ?_) hy
  · funext a
    fin_cases a <;> rfl
  · idx_vars i
    have e0 : i0 = b := congrFun e 0
    have e1 : i1 = h := congrFun e 1
    have e2 : i2 = l := congrFun e 2
    exact ⟨i3, by rw [e0, e1, e2]⟩

end Cert.Proof.Ker
-- ==== Proof.KerHash.lean ====
module

public import proofs.«01_k».proof.Proof.KerTake
public import proofs.«01_k».proof.Proof.Gen.KernelIdeal.Frame
public import Idealize.ShloMosaic.Lib.StableHlo.ReadAt

/-!
# The kernel's hashes, entry by entry
-/

@[expose] public section
noncomputable section
set_option maxRecDepth 16384

namespace Cert.Proof.Ker

open Cert.KernelIdeal Cert.KernelIdeal.Gen Idealize.ShloMosaic Idealize.ShloMosaic.TcCoe
open Idealize.ShloMosaic.StableHlo Idealize.ShloMosaic.Tactic

variable (V : Valuation τ sig (Elt Ideal))

/-- One round's projections of one head. -/
abbrev rot (A : S4x16x64x32.Idx → EReal) (r : Fin 4) (h : Fin 16) (d : Fin 64) (e : Fin 32) : EReal := A (ix4 r h d e)

/-- The rows of one head. -/
abbrev rows (Q : S2x16x8192x64.Idx → EReal) (b : Fin 2) (h : Fin 16) (l : Fin 8192) (d : Fin 64) : EReal := Q (ix4 b h l d)

theorem qk_v12 (b : Fin 2) (h : Fin 16) (l : Fin 8192) (d : Fin 64) :
    (after hostOps1 V (Proc.devRef .tc main_v12) : S2x16x8192x64.Idx → EReal) (ix4 b h l d)
     = Spec.proj (fun c k => (V (Proc.devRef .tc main_arg1) : S1024x1024.Idx → EReal) (ix2 c k)) (fun c => (V (Proc.devRef .tc main_arg2) : S1024.Idx → EReal) (ix1 c))
       (fun k => (V (Proc.devRef .tc main_arg0) : S2x8192x1024.Idx → EReal) (ix3 b l k)) (Spec.col h d) := by
  after_reads_simp
  pointwise
  rfl

theorem pos_v14 (l : Fin 8192) :
    (after hostOps1 V (Proc.devRef .tc main_v14) : S1x1x8192.Idx → BitVec 32) (ix3 0 0 l) = BitVec.ofNat 32 l.1 := by
  after_reads_simp
  pointwise

theorem hash_v20 (b : Fin 2) (h : Fin 16) (l : Fin 8192) (j : Fin 64) :
    (after hostOps1 V (Proc.devRef .tc main_v20) : S2x16x8192x64.Idx → EReal) (ix4 b h l j)
     = Spec.hv (rot (V (Proc.devRef .tc main_arg7)) 0 h) (rows (after hostOps1 V (Proc.devRef .tc main_v12)) b h l) j := by
  unfold Spec.hv rot rows
  after_reads_simp
  pointwise

theorem hash_v33 (b : Fin 2) (h : Fin 16) (l : Fin 8192) (j : Fin 64) :
    (after hostOps1_5 V (Proc.devRef .tc main_v33) : S2x16x8192x64.Idx → EReal) (ix4 b h l j)
     = Spec.hv (rot (V (Proc.devRef .tc main_arg7)) 1 h) (rows (V (Proc.devRef .tc main_v12)) b h l) j := by
  after_reads_simp
  pointwise
  rfl

theorem hash_v46 (b : Fin 2) (h : Fin 16) (l : Fin 8192) (j : Fin 64) :
    (after hostOps1_10 V (Proc.devRef .tc main_v46) : S2x16x8192x64.Idx → EReal) (ix4 b h l j)
     = Spec.hv (rot (V (Proc.devRef .tc main_arg7)) 2 h) (rows (V (Proc.devRef .tc main_v12)) b h l) j := by
  after_reads_simp
  pointwise
  rfl

theorem hash_v59 (b : Fin 2) (h : Fin 16) (l : Fin 8192) (j : Fin 64) :
    (after hostOps1_15 V (Proc.devRef .tc main_v59) : S2x16x8192x64.Idx → EReal) (ix4 b h l j)
     = Spec.hv (rot (V (Proc.devRef .tc main_arg7)) 3 h) (rows (V (Proc.devRef .tc main_v12)) b h l) j := by
  after_reads_simp
  pointwise
  rfl

end Cert.Proof.Ker
-- ==== Proof.KerRound.lean ====
module

public import proofs.«01_k».proof.Proof.KerTake
public import proofs.«01_k».proof.Proof.Gen.KernelIdeal.Frame
public import Idealize.ShloMosaic.Lib.StableHlo.ReadAt

/-!
# One round of the kernel's hashing, step by step
-/

@[expose] public section
noncomputable section
set_option maxRecDepth 16384

namespace Cert.Proof.Ker

open Cert.KernelIdeal Cert.KernelIdeal.Gen Idealize.ShloMosaic Idealize.ShloMosaic.TcCoe
open Idealize.ShloMosaic.StableHlo Idealize.ShloMosaic.Tactic

variable (V : Valuation τ sig (Elt Ideal))

/-- Reading the second halves of pairs. -/
theorem snd_v21 (A : S2x16x8192.Idx → EReal × BitVec 32) (B : BitVec 32) (j : S2x16x8192.Idx) (h : (A j).2 = B) :
    ((.of main_v21 : TRef sig ⟨S2x16x8192, .i32⟩).toBuf (Val := Elt Ideal) (fun j => (A j).2) : S2x16x8192.Idx → BitVec 32) j = B := h

theorem argmax_v21 (b : Fin 2) (h : Fin 16) (l : Fin 8192) :
    (after hostOps1_1 V (Proc.devRef .tc main_v21) : S2x16x8192.Idx → BitVec 32) (ix3 b h l)
     = Spec.amax fun j => (V (Proc.devRef .tc main_v20) : S2x16x8192x64.Idx → EReal) (ix4 b h l j) := by
  after_reads_simp
  exact snd_v21 _ _ _ (argmax_apply _ _ _ _ Spec.neg_inf rfl b h l fun _ => rfl)

theorem key_v25 (p : ∀ l, (V (Proc.devRef .tc main_v14) : S1x1x8192.Idx → BitVec 32) (ix3 0 0 l) = BitVec.ofNat 32 l.1) (b : Fin 2) (h : Fin 16) (l : Fin 8192) :
    (after hostOps1_2 V (Proc.devRef .tc main_v25) : S2x16x8192.Idx → BitVec 32) (ix3 b h l)
     = Spec.key (fun l => (V (Proc.devRef .tc main_v21) : S2x16x8192.Idx → BitVec 32) (ix3 b h l)) l := by
  after_reads_simp
  pointwise
  rw [p]
  rfl

theorem sort_v26 (b : Fin 2) (h : Fin 16) (l : Fin 8192) :
    (after hostOps1_3 V (Proc.devRef .tc main_v26) : S2x16x8192.Idx → BitVec 32) (ix3 b h l)
     = Spec.ordW (fun k => (V (Proc.devRef .tc main_v25) : S2x16x8192.Idx → BitVec 32) (ix3 b h k)) l := by
  after_reads_simp
  exact Order.sort2 comparator_i32_i32_d2 (fun _ _ => rfl) _ b h l

theorem take_v27 : (after hostOps1_4 V (Proc.devRef .tc main_v27) : S2x16x8192.Idx → BitVec 32)
    = take2 (V (Proc.devRef .tc main_v21)) (V (Proc.devRef .tc main_v26)) := by
  after_reads_simp
  simp only [TRef.ofBuf_toBuf]
  set_option maxRecDepth 1000000 in rfl

/-- Reading the second halves of pairs. -/
theorem snd_v34 (A : S2x16x8192.Idx → EReal × BitVec 32) (B : BitVec 32) (j : S2x16x8192.Idx) (h : (A j).2 = B) :
    ((.of main_v34 : TRef sig ⟨S2x16x8192, .i32⟩).toBuf (Val := Elt Ideal) (fun j => (A j).2) : S2x16x8192.Idx → BitVec 32) j = B := h

theorem argmax_v34 (b : Fin 2) (h : Fin 16) (l : Fin 8192) :
    (after hostOps1_6 V (Proc.devRef .tc main_v34) : S2x16x8192.Idx → BitVec 32) (ix3 b h l)
     = Spec.amax fun j => (V (Proc.devRef .tc main_v33) : S2x16x8192x64.Idx → EReal) (ix4 b h l j) := by
  after_reads_simp
  exact snd_v34 _ _ _ (argmax_apply _ _ _ _ Spec.neg_inf rfl b h l fun _ => rfl)

theorem key_v38 (p : ∀ l, (V (Proc.devRef .tc main_v14) : S1x1x8192.Idx → BitVec 32) (ix3 0 0 l) = BitVec.ofNat 32 l.1) (b : Fin 2) (h : Fin 16) (l : Fin 8192) :
    (after hostOps1_7 V (Proc.devRef .tc main_v38) : S2x16x8192.Idx → BitVec 32) (ix3 b h l)
     = Spec.key (fun l => (V (Proc.devRef .tc main_v34) : S2x16x8192.Idx → BitVec 32) (ix3 b h l)) l := by
  after_reads_simp
  pointwise
  rw [p]
  rfl

theorem sort_v39 (b : Fin 2) (h : Fin 16) (l : Fin 8192) :
    (after hostOps1_8 V (Proc.devRef .tc main_v39) : S2x16x8192.Idx → BitVec 32) (ix3 b h l)
     = Spec.ordW (fun k => (V (Proc.devRef .tc main_v38) : S2x16x8192.Idx → BitVec 32) (ix3 b h k)) l := by
  after_reads_simp
  exact Order.sort2 comparator_i32_i32_d2 (fun _ _ => rfl) _ b h l

theorem take_v40 : (after hostOps1_9 V (Proc.devRef .tc main_v40) : S2x16x8192.Idx → BitVec 32)
    = take2 (V (Proc.devRef .tc main_v34)) (V (Proc.devRef .tc main_v39)) := by
  after_reads_simp
  simp only [TRef.ofBuf_toBuf]
  set_option maxRecDepth 1000000 in rfl

/-- Reading the second halves of pairs. -/
theorem snd_v47 (A : S2x16x8192.Idx → EReal × BitVec 32) (B : BitVec 32) (j : S2x16x8192.Idx) (h : (A j).2 = B) :
    ((.of main_v47 : TRef sig ⟨S2x16x8192, .i32⟩).toBuf (Val := Elt Ideal) (fun j => (A j).2) : S2x16x8192.Idx → BitVec 32) j = B := h

theorem argmax_v47 (b : Fin 2) (h : Fin 16) (l : Fin 8192) :
    (after hostOps1_11 V (Proc.devRef .tc main_v47) : S2x16x8192.Idx → BitVec 32) (ix3 b h l)
     = Spec.amax fun j => (V (Proc.devRef .tc main_v46) : S2x16x8192x64.Idx → EReal) (ix4 b h l j) := by
  after_reads_simp
  exact snd_v47 _ _ _ (argmax_apply _ _ _ _ Spec.neg_inf rfl b h l fun _ => rfl)

theorem key_v51 (p : ∀ l, (V (Proc.devRef .tc main_v14) : S1x1x8192.Idx → BitVec 32) (ix3 0 0 l) = BitVec.ofNat 32 l.1) (b : Fin 2) (h : Fin 16) (l : Fin 8192) :
    (after hostOps1_12 V (Proc.devRef .tc main_v51) : S2x16x8192.Idx → BitVec 32) (ix3 b h l)
     = Spec.key (fun l => (V (Proc.devRef .tc main_v47) : S2x16x8192.Idx → BitVec 32) (ix3 b h l)) l := by
  after_reads_simp
  pointwise
  rw [p]
  rfl

theorem sort_v52 (b : Fin 2) (h : Fin 16) (l : Fin 8192) :
    (after hostOps1_13 V (Proc.devRef .tc main_v52) : S2x16x8192.Idx → BitVec 32) (ix3 b h l)
     = Spec.ordW (fun k => (V (Proc.devRef .tc main_v51) : S2x16x8192.Idx → BitVec 32) (ix3 b h k)) l := by
  after_reads_simp
  exact Order.sort2 comparator_i32_i32_d2 (fun _ _ => rfl) _ b h l

theorem take_v53 : (after hostOps1_14 V (Proc.devRef .tc main_v53) : S2x16x8192.Idx → BitVec 32)
    = take2 (V (Proc.devRef .tc main_v47)) (V (Proc.devRef .tc main_v52)) := by
  after_reads_simp
  simp only [TRef.ofBuf_toBuf]
  set_option maxRecDepth 1000000 in rfl

/-- Reading the second halves of pairs. -/
theorem snd_v60 (A : S2x16x8192.Idx → EReal × BitVec 32) (B : BitVec 32) (j : S2x16x8192.Idx) (h : (A j).2 = B) :
    ((.of main_v60 : TRef sig ⟨S2x16x8192, .i32⟩).toBuf (Val := Elt Ideal) (fun j => (A j).2) : S2x16x8192.Idx → BitVec 32) j = B := h

theorem argmax_v60 (b : Fin 2) (h : Fin 16) (l : Fin 8192) :
    (after hostOps1_16 V (Proc.devRef .tc main_v60) : S2x16x8192.Idx → BitVec 32) (ix3 b h l)
     = Spec.amax fun j => (V (Proc.devRef .tc main_v59) : S2x16x8192x64.Idx → EReal) (ix4 b h l j) := by
  after_reads_simp
  exact snd_v60 _ _ _ (argmax_apply _ _ _ _ Spec.neg_inf rfl b h l fun _ => rfl)

theorem key_v64 (p : ∀ l, (V (Proc.devRef .tc main_v14) : S1x1x8192.Idx → BitVec 32) (ix3 0 0 l) = BitVec.ofNat 32 l.1) (b : Fin 2) (h : Fin 16) (l : Fin 8192) :
    (after hostOps1_17 V (Proc.devRef .tc main_v64) : S2x16x8192.Idx → BitVec 32) (ix3 b h l)
     = Spec.key (fun l => (V (Proc.devRef .tc main_v60) : S2x16x8192.Idx → BitVec 32) (ix3 b h l)) l := by
  after_reads_simp
  pointwise
  rw [p]
  rfl

theorem sort_v65 (b : Fin 2) (h : Fin 16) (l : Fin 8192) :
    (after hostOps1_18 V (Proc.devRef .tc main_v65) : S2x16x8192.Idx → BitVec 32) (ix3 b h l)
     = Spec.ordW (fun k => (V (Proc.devRef .tc main_v64) : S2x16x8192.Idx → BitVec 32) (ix3 b h k)) l := by
  after_reads_simp
  exact Order.sort2 comparator_i32_i32_d2 (fun _ _ => rfl) _ b h l

theorem take_v66 : (after hostOps1_19 V (Proc.devRef .tc main_v66) : S2x16x8192.Idx → BitVec 32)
    = take2 (V (Proc.devRef .tc main_v60)) (V (Proc.devRef .tc main_v65)) := by
  after_reads_simp
  simp only [TRef.ofBuf_toBuf]
  set_option maxRecDepth 1000000 in rfl

end Cert.Proof.Ker
-- ==== Proof.KerChain.lean ====
module

public import proofs.«01_k».proof.Proof.KerHash
public import proofs.«01_k».proof.Proof.KerRound
public import proofs.«01_k».proof.Proof.Layer

/-!
# The kernel's four rounds of hashing

Every round leaves the sorted order of its rows and their buckets in that order.
-/

@[expose] public section
noncomputable section
set_option maxRecDepth 16384

namespace Cert.Proof.Ker

open Cert.KernelIdeal Cert.KernelIdeal.Gen Idealize.ShloMosaic Idealize.ShloMosaic.TcCoe
open Idealize.ShloMosaic.StableHlo Idealize.ShloMosaic.Tactic

/-- A round, from what each of its steps leaves. -/
theorem round_of (x : S2x16x8192x64.Idx → EReal) (a k o t : S2x16x8192.Idx → BitVec 32)
    (R : Fin 16 → Fin 64 → Fin 32 → EReal) (Q : Fin 2 → Fin 16 → Fin 8192 → Fin 64 → EReal)
    (hx : ∀ b h l j, x (ix4 b h l j) = Spec.hv (R h) (Q b h l) j)
    (ha : ∀ b h l, a (ix3 b h l) = Spec.amax fun j => x (ix4 b h l j))
    (hk : ∀ b h l, k (ix3 b h l) = Spec.key (fun l => a (ix3 b h l)) l)
    (ho : ∀ b h l, o (ix3 b h l) = Spec.ordW (fun l => k (ix3 b h l)) l)
    (ht : t = take2 a o) (b : Fin 2) (h : Fin 16) (p : Fin 8192) :
    o (ix3 b h p) = BitVec.ofNat 32 (Spec.srt (R h) (Q b h) p).1 ∧ t (ix3 b h p) = Spec.bkt (R h) (Q b h) (Spec.srt (R h) (Q b h) p) := by
  have a' : ∀ l, a (ix3 b h l) = Spec.bkt (R h) (Q b h) l := fun l => (ha b h l).trans (congrArg Spec.amax (funext fun j => hx b h l j))
  have k' : ∀ l, k (ix3 b h l) = Spec.key (Spec.bkt (R h) (Q b h)) l := fun l => (hk b h l).trans (congrArg (fun f => Spec.key f l) (funext a'))
  have o' : ∀ l, o (ix3 b h l) = BitVec.ofNat 32 (Spec.srt (R h) (Q b h) l).1 := fun l => (ho b h l).trans (congrArg (fun f => Spec.ordW f l) (funext k'))
  exact ⟨o' p, by rw [ht, take2_apply _ _ b h p _ (o' p), a']⟩

variable (m : (ℓ : Loc nD τ sig) → Buf (Elt Ideal) ℓ) (ρ : Dev nD → PrngReg) (c : Dev nD)

/-- The query rows. -/
abbrev Qm : Fin 2 → Fin 16 → Fin 8192 → Fin 64 → EReal :=
  Layer.heads (m ((c.tc : Thread nD τ).loc main_arg0)) (m ((c.tc : Thread nD τ).loc main_arg1)) (m ((c.tc : Thread nD τ).loc main_arg2))
/-- The value rows. -/
abbrev Um : Fin 2 → Fin 16 → Fin 8192 → Fin 64 → EReal :=
  Layer.heads (m ((c.tc : Thread nD τ).loc main_arg0)) (m ((c.tc : Thread nD τ).loc main_arg3)) (m ((c.tc : Thread nD τ).loc main_arg4))
/-- The rounds' projections. -/
abbrev Rm : Fin 4 → Fin 16 → Fin 64 → Fin 32 → EReal := Layer.rot (m ((c.tc : Thread nD τ).loc main_arg7))

theorem keep7 (r : Ref sig .tc) (h : r ∉ hostOps1_1_W ++ hostOps1_2_W ++ hostOps1_3_W ++ hostOps1_4_W) :
    W7 m ρ c (Proc.devRef .tc r) = W3 m ρ c (Proc.devRef .tc r) := by
  simp only [List.mem_append, not_or] at h
  obtain ⟨⟨⟨h1, h2⟩, h3⟩, h4⟩ := h
  rw [W7_of m ρ c r h4, W6_of m ρ c r h3, W5_of m ρ c r h2, W4_of m ρ c r h1]

theorem keep12 (r : Ref sig .tc) (h : r ∉ hostOps1_5_W ++ hostOps1_6_W ++ hostOps1_7_W ++ hostOps1_8_W ++ hostOps1_9_W) :
    W12 m ρ c (Proc.devRef .tc r) = W7 m ρ c (Proc.devRef .tc r) := by
  simp only [List.mem_append, not_or] at h
  obtain ⟨⟨⟨⟨h1, h2⟩, h3⟩, h4⟩, h5⟩ := h
  rw [W12_of m ρ c r h5, W11_of m ρ c r h4, W10_of m ρ c r h3, W9_of m ρ c r h2, W8_of m ρ c r h1]

theorem keep17 (r : Ref sig .tc) (h : r ∉ hostOps1_10_W ++ hostOps1_11_W ++ hostOps1_12_W ++ hostOps1_13_W ++ hostOps1_14_W) :
    W17 m ρ c (Proc.devRef .tc r) = W12 m ρ c (Proc.devRef .tc r) := by
  simp only [List.mem_append, not_or] at h
  obtain ⟨⟨⟨⟨h1, h2⟩, h3⟩, h4⟩, h5⟩ := h
  rw [W17_of m ρ c r h5, W16_of m ρ c r h4, W15_of m ρ c r h3, W14_of m ρ c r h2, W13_of m ρ c r h1]

theorem keep22 (r : Ref sig .tc) (h : r ∉ hostOps1_15_W ++ hostOps1_16_W ++ hostOps1_17_W ++ hostOps1_18_W ++ hostOps1_19_W) :
    W22 m ρ c (Proc.devRef .tc r) = W17 m ρ c (Proc.devRef .tc r) := by
  simp only [List.mem_append, not_or] at h
  obtain ⟨⟨⟨⟨h1, h2⟩, h3⟩, h4⟩, h5⟩ := h
  rw [W22_of m ρ c r h5, W21_of m ρ c r h4, W20_of m ρ c r h3, W19_of m ρ c r h2, W18_of m ρ c r h1]

theorem q_w3 (b : Fin 2) (h : Fin 16) (l : Fin 8192) (d : Fin 64) :
    (W3 m ρ c (Proc.devRef .tc main_v12) : S2x16x8192x64.Idx → EReal) (ix4 b h l d) = Qm m c b h l d := by
  refine (qk_v12 (W2 m ρ c) b h l d).trans ?_
  rw [W2_args m ρ c main_arg0 (by decide), W2_args m ρ c main_arg1 (by decide), W2_args m ρ c main_arg2 (by decide)]
  rfl

theorem pos_w3 (l : Fin 8192) : (W3 m ρ c (Proc.devRef .tc main_v14) : S1x1x8192.Idx → BitVec 32) (ix3 0 0 l) = BitVec.ofNat 32 l.1 :=
  pos_v14 (W2 m ρ c) l

/-- A round's hashes, where its line finds the rows and the projections. -/
theorem hash_of (V : Valuation τ sig (Elt Ideal)) (r : Fin 4)
    (h7 : V (Proc.devRef .tc main_arg7) = m ((c.tc : Thread nD τ).loc main_arg7))
    (hq : V (Proc.devRef .tc main_v12) = W3 m ρ c (Proc.devRef .tc main_v12))
    (b : Fin 2) (h : Fin 16) (l : Fin 8192) (j : Fin 64) :
    Spec.hv (rot (V (Proc.devRef .tc main_arg7)) r h) (rows (V (Proc.devRef .tc main_v12)) b h l) j
      = Spec.hv (Rm m c r h) (Qm m c b h l) j := by
  rw [h7, hq]
  exact congrArg (fun f => Spec.hv _ f j) (funext fun d => q_w3 m ρ c b h l d)

theorem round_0 (b : Fin 2) (h : Fin 16) (p : Fin 8192) :
    (W7 m ρ c (Proc.devRef .tc main_v26) : S2x16x8192.Idx → BitVec 32) (ix3 b h p) = BitVec.ofNat 32 (Spec.srt (Rm m c 0 h) (Qm m c b h) p).1
    ∧ (W7 m ρ c (Proc.devRef .tc main_v27) : S2x16x8192.Idx → BitVec 32) (ix3 b h p) = Spec.bkt (Rm m c 0 h) (Qm m c b h) (Spec.srt (Rm m c 0 h) (Qm m c b h) p) := by
  refine round_of (W3 m ρ c (Proc.devRef .tc main_v20)) (W4 m ρ c (Proc.devRef .tc main_v21)) (W5 m ρ c (Proc.devRef .tc main_v25))
    (W7 m ρ c (Proc.devRef .tc main_v26)) (W7 m ρ c (Proc.devRef .tc main_v27)) (Rm m c 0) (Qm m c) (fun b h l j => ?_)
    (argmax_v21 (W3 m ρ c)) (key_v25 (W4 m ρ c) fun l => ?_) (fun b h l => ?_) ?_ b h p
  · refine (hash_v20 (W2 m ρ c) b h l j).trans ?_
    rw [W2_args m ρ c main_arg7 (by decide)]
    exact congrArg (fun f => Spec.hv _ f j) (funext fun d => q_w3 m ρ c b h l d)
  · rw [W4_of m ρ c main_v14 (by decide)]
    exact pos_w3 m ρ c l
  · rw [W7_of m ρ c main_v26 (by decide)]
    exact sort_v26 (W5 m ρ c) b h l
  · refine (take_v27 (W6 m ρ c)).trans ?_
    rw [W7_of m ρ c main_v26 (by decide), W6_of m ρ c main_v21 (by decide), W5_of m ρ c main_v21 (by decide)]

theorem round_1 (b : Fin 2) (h : Fin 16) (p : Fin 8192) :
    (W12 m ρ c (Proc.devRef .tc main_v39) : S2x16x8192.Idx → BitVec 32) (ix3 b h p) = BitVec.ofNat 32 (Spec.srt (Rm m c 1 h) (Qm m c b h) p).1
    ∧ (W12 m ρ c (Proc.devRef .tc main_v40) : S2x16x8192.Idx → BitVec 32) (ix3 b h p) = Spec.bkt (Rm m c 1 h) (Qm m c b h) (Spec.srt (Rm m c 1 h) (Qm m c b h) p) := by
  refine round_of (W8 m ρ c (Proc.devRef .tc main_v33)) (W9 m ρ c (Proc.devRef .tc main_v34)) (W10 m ρ c (Proc.devRef .tc main_v38))
    (W12 m ρ c (Proc.devRef .tc main_v39)) (W12 m ρ c (Proc.devRef .tc main_v40)) (Rm m c 1) (Qm m c)
    (fun b h l j => (hash_v33 (W7 m ρ c) b h l j).trans (hash_of m ρ c _ 1 (W7_args m ρ c main_arg7 (by decide)) (keep7 m ρ c main_v12 (by decide)) b h l j))
    (argmax_v34 (W8 m ρ c)) (key_v38 (W9 m ρ c) fun l => ?_) (fun b h l => ?_) ?_ b h p
  · rw [W9_of m ρ c main_v14 (by decide), W8_of m ρ c main_v14 (by decide), keep7 m ρ c main_v14 (by decide)]
    exact pos_w3 m ρ c l
  · rw [W12_of m ρ c main_v39 (by decide)]
    exact sort_v39 (W10 m ρ c) b h l
  · refine (take_v40 (W11 m ρ c)).trans ?_
    rw [W12_of m ρ c main_v39 (by decide), W11_of m ρ c main_v34 (by decide), W10_of m ρ c main_v34 (by decide)]

theorem round_2 (b : Fin 2) (h : Fin 16) (p : Fin 8192) :
    (W17 m ρ c (Proc.devRef .tc main_v52) : S2x16x8192.Idx → BitVec 32) (ix3 b h p) = BitVec.ofNat 32 (Spec.srt (Rm m c 2 h) (Qm m c b h) p).1
    ∧ (W17 m ρ c (Proc.devRef .tc main_v53) : S2x16x8192.Idx → BitVec 32) (ix3 b h p) = Spec.bkt (Rm m c 2 h) (Qm m c b h) (Spec.srt (Rm m c 2 h) (Qm m c b h) p) := by
  refine round_of (W13 m ρ c (Proc.devRef .tc main_v46)) (W14 m ρ c (Proc.devRef .tc main_v47)) (W15 m ρ c (Proc.devRef .tc main_v51))
    (W17 m ρ c (Proc.devRef .tc main_v52)) (W17 m ρ c (Proc.devRef .tc main_v53)) (Rm m c 2) (Qm m c)
    (fun b h l j => (hash_v46 (W12 m ρ c) b h l j).trans (hash_of m ρ c _ 2 (W12_args m ρ c main_arg7 (by decide))
      ((keep12 m ρ c main_v12 (by decide)).trans (keep7 m ρ c main_v12 (by decide))) b h l j))
    (argmax_v47 (W13 m ρ c)) (key_v51 (W14 m ρ c) fun l => ?_) (fun b h l => ?_) ?_ b h p
  · rw [W14_of m ρ c main_v14 (by decide), W13_of m ρ c main_v14 (by decide), keep12 m ρ c main_v14 (by decide), keep7 m ρ c main_v14 (by decide)]
    exact pos_w3 m ρ c l
  · rw [W17_of m ρ c main_v52 (by decide)]
    exact sort_v52 (W15 m ρ c) b h l
  · refine (take_v53 (W16 m ρ c)).trans ?_
    rw [W17_of m ρ c main_v52 (by decide), W16_of m ρ c main_v47 (by decide), W15_of m ρ c main_v47 (by decide)]

theorem round_3 (b : Fin 2) (h : Fin 16) (p : Fin 8192) :
    (W22 m ρ c (Proc.devRef .tc main_v65) : S2x16x8192.Idx → BitVec 32) (ix3 b h p) = BitVec.ofNat 32 (Spec.srt (Rm m c 3 h) (Qm m c b h) p).1
    ∧ (W22 m ρ c (Proc.devRef .tc main_v66) : S2x16x8192.Idx → BitVec 32) (ix3 b h p) = Spec.bkt (Rm m c 3 h) (Qm m c b h) (Spec.srt (Rm m c 3 h) (Qm m c b h) p) := by
  refine round_of (W18 m ρ c (Proc.devRef .tc main_v59)) (W19 m ρ c (Proc.devRef .tc main_v60)) (W20 m ρ c (Proc.devRef .tc main_v64))
    (W22 m ρ c (Proc.devRef .tc main_v65)) (W22 m ρ c (Proc.devRef .tc main_v66)) (Rm m c 3) (Qm m c)
    (fun b h l j => (hash_v59 (W17 m ρ c) b h l j).trans (hash_of m ρ c _ 3 (W17_args m ρ c main_arg7 (by decide))
      ((keep17 m ρ c main_v12 (by decide)).trans ((keep12 m ρ c main_v12 (by decide)).trans (keep7 m ρ c main_v12 (by decide)))) b h l j))
    (argmax_v60 (W18 m ρ c)) (key_v64 (W19 m ρ c) fun l => ?_) (fun b h l => ?_) ?_ b h p
  · rw [W19_of m ρ c main_v14 (by decide), W18_of m ρ c main_v14 (by decide), keep17 m ρ c main_v14 (by decide), keep12 m ρ c main_v14 (by decide),
      keep7 m ρ c main_v14 (by decide)]
    exact pos_w3 m ρ c l
  · rw [W22_of m ρ c main_v65 (by decide)]
    exact sort_v65 (W20 m ρ c) b h l
  · refine (take_v66 (W21 m ρ c)).trans ?_
    rw [W22_of m ρ c main_v65 (by decide), W21_of m ρ c main_v60 (by decide), W20_of m ρ c main_v60 (by decide)]

end Cert.Proof.Ker
-- ==== Proof.KerStack.lean ====
module

public import proofs.«01_k».proof.Proof.KerTake
public import proofs.«01_k».proof.Proof.Gen.KernelIdeal.Frame
public import Idealize.ShloMosaic.Lib.StableHlo.ReadAt

/-!
# The kernel's rounds side by side
-/

@[expose] public section
noncomputable section
set_option maxRecDepth 16384

namespace Cert.Proof.Ker

open Cert.KernelIdeal Cert.KernelIdeal.Gen Idealize.ShloMosaic Idealize.ShloMosaic.TcCoe
open Idealize.ShloMosaic.StableHlo Idealize.ShloMosaic.Tactic

variable (V : Valuation τ sig (Elt Ideal))

/-- The four rounds' arrays. -/
def four (x y z w : S2x16x8192.Idx → BitVec 32) : Fin 4 → S2x16x8192.Idx → BitVec 32 := ![x, y, z, w]

theorem stack_v71 (r : Fin 4) (b : Fin 2) (h : Fin 16) (l : Fin 8192) :
    (after hostOps1_20 V (Proc.devRef .tc main_v71) : S4x2x16x8192.Idx → BitVec 32) (ix4 r b h l)
     = four (V (Proc.devRef .tc main_v26)) (V (Proc.devRef .tc main_v39)) (V (Proc.devRef .tc main_v52)) (V (Proc.devRef .tc main_v65)) r (ix3 b h l) := by
  after_reads_simp
  pointwise
  simp only [unary_result', upto_zero, upto_unwritten (ops := hostOps1_20) (n := 1) (r := main_v39) [main_v67] rfl (by decide),
    upto_unwritten (ops := hostOps1_20) (n := 2) (r := main_v52) [main_v67, main_v68] rfl (by decide),
    upto_unwritten (ops := hostOps1_20) (n := 3) (r := main_v65) [main_v67, main_v68, main_v69] rfl (by decide)]
  pointwise
  fin_cases r <;> rfl

/-- The buckets' part of the line. -/
theorem part_v76 (r : Fin 4) (b : Fin 2) (h : Fin 16) (l : Fin 8192) :
    (after (hostOps1_20.drop 5) V (Proc.devRef .tc main_v76) : S4x2x16x8192.Idx → BitVec 32) (ix4 r b h l)
     = four (V (Proc.devRef .tc main_v27)) (V (Proc.devRef .tc main_v40)) (V (Proc.devRef .tc main_v53)) (V (Proc.devRef .tc main_v66)) r (ix3 b h l) := by
  after_reads_simp
  pointwise
  simp only [unary_result', upto_zero, upto_unwritten (ops := hostOps1_20.drop 5) (n := 1) (r := main_v40) [main_v72] rfl (by decide),
    upto_unwritten (ops := hostOps1_20.drop 5) (n := 2) (r := main_v53) [main_v72, main_v73] rfl (by decide),
    upto_unwritten (ops := hostOps1_20.drop 5) (n := 3) (r := main_v66) [main_v72, main_v73, main_v74] rfl (by decide)]
  pointwise
  fin_cases r <;> rfl

theorem stack_v76 (r : Fin 4) (b : Fin 2) (h : Fin 16) (l : Fin 8192) :
    (after hostOps1_20 V (Proc.devRef .tc main_v76) : S4x2x16x8192.Idx → BitVec 32) (ix4 r b h l)
     = four (V (Proc.devRef .tc main_v27)) (V (Proc.devRef .tc main_v40)) (V (Proc.devRef .tc main_v53)) (V (Proc.devRef .tc main_v66)) r (ix3 b h l) := by
  have e := part_v76 (after (hostOps1_20.take 5) V) r b h l
  rw [after_unwritten (ops := hostOps1_20.take 5) [main_v67, main_v68, main_v69, main_v70, main_v71] rfl (by decide) V,
    after_unwritten (ops := hostOps1_20.take 5) [main_v67, main_v68, main_v69, main_v70, main_v71] rfl (by decide) V,
    after_unwritten (ops := hostOps1_20.take 5) [main_v67, main_v68, main_v69, main_v70, main_v71] rfl (by decide) V,
    after_unwritten (ops := hostOps1_20.take 5) [main_v67, main_v68, main_v69, main_v70, main_v71] rfl (by decide) V] at e
  exact e

theorem stack_v81 (b : Fin 2) (h : Fin 16) (l : Fin 8192) (d : Fin 64) :
    (after hostOps1_20 V (Proc.devRef .tc main_v81) : S1x2x16x8192x64.Idx → EReal) (ix5 0 b h l d)
     = (V (Proc.devRef .tc main_v5_0) : S16384x1024.Idx → EReal) (ix2 ⟨b.1 * 8192 + l.1, by omega⟩ (Spec.col h d)) := by
  after_reads_simp
  pointwise
  rfl

theorem stack_v80 (b : Fin 2) (h : Fin 16) (l : Fin 8192) (d : Fin 64) :
    (after hostOps1_20 V (Proc.devRef .tc main_v80) : S2x16x8192x64.Idx → EReal) (ix4 b h l d)
     = (V (Proc.devRef .tc main_v5_1) : S16384x1024.Idx → EReal) (ix2 ⟨b.1 * 8192 + l.1, by omega⟩ (Spec.col h d)) := by
  after_reads_simp
  pointwise
  rfl

theorem stack_v82 (r : Fin 4) (b : Fin 2) (h : Fin 16) (l : Fin 8192) :
    (after hostOps1_20 V (Proc.devRef .tc main_v82) : S4x2x16x8192x1.Idx → BitVec 32) (ix5 r b h l 0)
     = four (V (Proc.devRef .tc main_v26)) (V (Proc.devRef .tc main_v39)) (V (Proc.devRef .tc main_v52)) (V (Proc.devRef .tc main_v65)) r (ix3 b h l) := by
  after_reads_simp
  pointwise
  rw [upto_last_write (r := main_v67) (i := 0) [main_v68, main_v69, main_v70] rfl rfl (by decide),
    upto_last_write (r := main_v68) (i := 1) [main_v69, main_v70] rfl rfl (by decide),
    upto_last_write (r := main_v69) (i := 2) [main_v70] rfl rfl (by decide),
    upto_last_write (r := main_v70) (i := 3) [] rfl rfl (by decide),
    unary_result', unary_result', unary_result', unary_result', upto_zero, upto_unwritten [main_v67] rfl (by decide),
    upto_unwritten [main_v67, main_v68] rfl (by decide), upto_unwritten [main_v67, main_v68, main_v69] rfl (by decide)]
  pointwise
  fin_cases r <;> rfl

end Cert.Proof.Ker
-- ==== Proof.KerRows.lean ====
module

public import proofs.«01_k».proof.Proof.KerTake
public import proofs.«01_k».proof.Proof.Gen.KernelIdeal.Frame
public import Idealize.ShloMosaic.Lib.StableHlo.ReadAt

/-!
# The kernel's sorted rows
-/

@[expose] public section
noncomputable section
set_option maxRecDepth 16384

namespace Cert.Proof.Ker

open Cert.KernelIdeal Cert.KernelIdeal.Gen Idealize.ShloMosaic Idealize.ShloMosaic.TcCoe
open Idealize.ShloMosaic.StableHlo Idealize.ShloMosaic.Tactic

variable (V : Valuation τ sig (Elt Ideal))

theorem strip_v82 (p q r) (x : S4x2x16x8192x1.Idx → BitVec 32) :
    ((TRef.of main_v82 p q r : TRef sig ⟨S4x2x16x8192x1, .i32⟩).ofBuf (Val := Elt Ideal) x : S4x2x16x8192x1.Idx → BitVec 32) = x := rfl

theorem cast_v81 (p q r) (x : S1x2x16x8192x64.Idx → EReal) (w) :
    ((TRef.of main_call12_v5 p q r : TRef sig ⟨S2x16x8192x64, .f32⟩).ofBuf (Val := Elt Ideal) (fun i => shapeCast main_call12_v5.ty.shape x w i) : S2x16x8192x64.Idx → EReal)
     = shapeCast S2x16x8192x64 x shapeCasts_S1x2x16x8192x64_S2x16x8192x64 := rfl

theorem get_v83 (p q r) (x : S4x2x16x8192x64.Idx → EReal) (j) (y : EReal) (h : x j = y) :
    ((TRef.of main_v83 p q r : TRef sig ⟨S4x2x16x8192x64, .f32⟩).toBuf (Val := Elt Ideal) x : S4x2x16x8192x64.Idx → EReal) j = y := h

theorem take_v83 (r : Fin 4) (b : Fin 2) (h : Fin 16) (l : Fin 8192) (d : Fin 64) (n : Fin 8192)
    (hn : (V (Proc.devRef .tc main_v82) : S4x2x16x8192x1.Idx → BitVec 32) (ix5 r b h l 0) = BitVec.ofNat 32 n.1) :
    (after hostOps1_21 V (Proc.devRef .tc main_v83) : S4x2x16x8192x64.Idx → EReal) (ix5 r b h l d)
    = (V (Proc.devRef .tc main_v81) : S1x2x16x8192x64.Idx → EReal) (ix5 0 b h n d) := by
  after_reads_simp
  simp only [TRef.ofBuf_toBuf]
  refine get_v83 _ _ _ _ _ _ ?_
  simp only [strip_v82, cast_v81]
  refine Eq.trans ?_ (takeRows_apply _ _ r b h l d n hn)
  unfold takeRows
  refine congrArg₂ (fun a b => Scalar.select a b _) ?_ ?_
  · pointwise [inr4, wrap4]
  · rfl

theorem rows_v84 (b : Fin 2) (h : Fin 16) (l : Fin 8192) (d : Fin 64) :
    (after hostOps1_22 V (Proc.devRef .tc main_v84) : S1x2x16x8192x64.Idx → EReal) (ix5 0 b h l d)
     = (V (Proc.devRef .tc main_v80) : S2x16x8192x64.Idx → EReal) (ix4 b h l d) := by
  after_reads_simp
  pointwise

theorem rows_v85 (r : Fin 4) (b : Fin 2) (h : Fin 16) (l : Fin 8192) :
    (after hostOps1_22 V (Proc.devRef .tc main_v85) : S4x2x16x8192x1.Idx → BitVec 32) (ix5 r b h l 0)
     = (V (Proc.devRef .tc main_v71) : S4x2x16x8192.Idx → BitVec 32) (ix4 r b h l) := by
  after_reads_simp
  pointwise

theorem strip_v85 (p q r) (x : S4x2x16x8192x1.Idx → BitVec 32) :
    ((TRef.of main_v85 p q r : TRef sig ⟨S4x2x16x8192x1, .i32⟩).ofBuf (Val := Elt Ideal) x : S4x2x16x8192x1.Idx → BitVec 32) = x := rfl

theorem cast_v84 (p q r) (x : S1x2x16x8192x64.Idx → EReal) (w) :
    ((TRef.of main_call13_v5 p q r : TRef sig ⟨S2x16x8192x64, .f32⟩).ofBuf (Val := Elt Ideal) (fun i => shapeCast main_call13_v5.ty.shape x w i) : S2x16x8192x64.Idx → EReal)
     = shapeCast S2x16x8192x64 x shapeCasts_S1x2x16x8192x64_S2x16x8192x64 := rfl

theorem get_v86 (p q r) (x : S4x2x16x8192x64.Idx → EReal) (j) (y : EReal) (h : x j = y) :
    ((TRef.of main_v86 p q r : TRef sig ⟨S4x2x16x8192x64, .f32⟩).toBuf (Val := Elt Ideal) x : S4x2x16x8192x64.Idx → EReal) j = y := h

theorem take_v86 (r : Fin 4) (b : Fin 2) (h : Fin 16) (l : Fin 8192) (d : Fin 64) (n : Fin 8192)
    (hn : (V (Proc.devRef .tc main_v85) : S4x2x16x8192x1.Idx → BitVec 32) (ix5 r b h l 0) = BitVec.ofNat 32 n.1) :
    (after hostOps1_23 V (Proc.devRef .tc main_v86) : S4x2x16x8192x64.Idx → EReal) (ix5 r b h l d)
    = (V (Proc.devRef .tc main_v84) : S1x2x16x8192x64.Idx → EReal) (ix5 0 b h n d) := by
  after_reads_simp
  simp only [TRef.ofBuf_toBuf]
  refine get_v86 _ _ _ _ _ _ ?_
  simp only [strip_v85, cast_v84]
  refine Eq.trans ?_ (takeRows_apply _ _ r b h l d n hn)
  unfold takeRows
  refine congrArg₂ (fun a b => Scalar.select a b _) ?_ ?_
  · pointwise [inr4, wrap4]
  · rfl

end Cert.Proof.Ker
-- ==== Proof.KerBack.lean ====
module

public import proofs.«01_k».proof.Proof.KerTake
public import proofs.«01_k».proof.Proof.Gen.KernelIdeal.Frame
public import Idealize.ShloMosaic.Lib.StableHlo.ReadAt

/-!
# The kernel's heads before and after the attention
-/

@[expose] public section
noncomputable section
set_option maxRecDepth 16384

namespace Cert.Proof.Ker

open Cert.KernelIdeal Cert.KernelIdeal.Gen Idealize.ShloMosaic Idealize.ShloMosaic.TcCoe
open Idealize.ShloMosaic.StableHlo Idealize.ShloMosaic.Tactic

variable (V : Valuation τ sig (Elt Ideal))

/-- One head of one batch in one round, as a number. -/
def hd (r : Fin 4) (b : Fin 2) (h : Fin 16) : Fin 128 := ⟨r.1 * 32 + b.1 * 16 + h.1, by omega⟩

theorem heads_v87 (g : Fin 128) (l : Fin 8192) (d : Fin 64) :
    (after hostOps1_24 V (Proc.devRef .tc main_v87) : S128x8192x64.Idx → EReal) (ix3 g l d)
     = (V (Proc.devRef .tc main_v83) : S4x2x16x8192x64.Idx → EReal) (ix5 ⟨g.1 / 32, by omega⟩ ⟨g.1 / 16 % 2, by omega⟩ ⟨g.1 % 16, by omega⟩ l d) := by
  after_reads_simp
  pointwise

theorem heads_v88 (g : Fin 128) (l : Fin 8192) (d : Fin 64) :
    (after hostOps1_24 V (Proc.devRef .tc main_v88) : S128x8192x64.Idx → EReal) (ix3 g l d)
     = (V (Proc.devRef .tc main_v86) : S4x2x16x8192x64.Idx → EReal) (ix5 ⟨g.1 / 32, by omega⟩ ⟨g.1 / 16 % 2, by omega⟩ ⟨g.1 % 16, by omega⟩ l d) := by
  after_reads_simp
  pointwise

theorem heads_v89 (g : Fin 128) (l : Fin 8192) :
    (after hostOps1_24 V (Proc.devRef .tc main_v89) : S128x1x8192.Idx → BitVec 32) (ix3 g 0 l)
     = (V (Proc.devRef .tc main_v76) : S4x2x16x8192.Idx → BitVec 32) (ix4 ⟨g.1 / 32, by omega⟩ ⟨g.1 / 16 % 2, by omega⟩ ⟨g.1 % 16, by omega⟩ l) := by
  after_reads_simp
  pointwise

theorem heads_v90 (g : Fin 128) (l : Fin 8192) :
    (after hostOps1_24 V (Proc.devRef .tc main_v90) : S128x8192x1.Idx → BitVec 32) (ix3 g l 0)
     = (V (Proc.devRef .tc main_v76) : S4x2x16x8192.Idx → BitVec 32) (ix4 ⟨g.1 / 32, by omega⟩ ⟨g.1 / 16 % 2, by omega⟩ ⟨g.1 % 16, by omega⟩ l) := by
  after_reads_simp
  pointwise

theorem back_v92 (r : Fin 4) (b : Fin 2) (h : Fin 16) (l : Fin 8192) (d : Fin 64) :
    (after hostOps2 V (Proc.devRef .tc main_v92) : S4x2x16x8192x64.Idx → EReal) (ix5 r b h l d)
     = (V (Proc.devRef .tc main_v91) : S128x8192x64.Idx → EReal) (ix3 (hd r b h) l d) := by
  after_reads_simp
  pointwise
  rfl

theorem back_v93 (r : Fin 4) (b : Fin 2) (h : Fin 16) (l : Fin 8192) :
    (after hostOps2_1 V (Proc.devRef .tc main_v93) : S4x2x16x8192.Idx → BitVec 32) (ix4 r b h l)
     = Spec.ordW (fun k => (V (Proc.devRef .tc main_v71) : S4x2x16x8192.Idx → BitVec 32) (ix4 r b h k)) l := by
  after_reads_simp
  exact Order.sort3 comparator_i32_i32_d3 (fun _ _ => rfl) _ r b h l

theorem back_v94 (r : Fin 4) (b : Fin 2) (h : Fin 16) (l : Fin 8192) :
    (after hostOps2_2 V (Proc.devRef .tc main_v94) : S4x2x16x8192x1.Idx → BitVec 32) (ix5 r b h l 0)
     = (V (Proc.devRef .tc main_v93) : S4x2x16x8192.Idx → BitVec 32) (ix4 r b h l) := by
  after_reads_simp
  pointwise

theorem strip_v94 (p q r) (x : S4x2x16x8192x1.Idx → BitVec 32) :
    ((TRef.of main_v94 p q r : TRef sig ⟨S4x2x16x8192x1, .i32⟩).ofBuf (Val := Elt Ideal) x : S4x2x16x8192x1.Idx → BitVec 32) = x := rfl

theorem get_v95 (p q r) (x : S4x2x16x8192x64.Idx → EReal) (j) (y : EReal) (h : x j = y) :
    ((TRef.of main_v95 p q r : TRef sig ⟨S4x2x16x8192x64, .f32⟩).toBuf (Val := Elt Ideal) x : S4x2x16x8192x64.Idx → EReal) j = y := h

theorem take_v95 (r : Fin 4) (b : Fin 2) (h : Fin 16) (l : Fin 8192) (d : Fin 64) (n : Fin 8192)
    (hn : (V (Proc.devRef .tc main_v94) : S4x2x16x8192x1.Idx → BitVec 32) (ix5 r b h l 0) = BitVec.ofNat 32 n.1) :
    (after hostOps2_3 V (Proc.devRef .tc main_v95) : S4x2x16x8192x64.Idx → EReal) (ix5 r b h l d)
    = (V (Proc.devRef .tc main_v92) : S4x2x16x8192x64.Idx → EReal) (ix5 r b h n d) := by
  after_reads_simp
  simp only [TRef.ofBuf_toBuf]
  refine get_v95 _ _ _ _ _ _ ?_
  simp only [strip_v94]
  refine Eq.trans ?_ (takeBack_apply _ _ r b h l d n hn)
  unfold takeBack
  refine congrArg₂ (fun a b => Scalar.select a b _) ?_ ?_
  · pointwise [inr4, wrap4]
  · rfl

/-- The mean of the rounds. -/
def mean (X : S4x2x16x8192x64.Idx → EReal) (b : Fin 2) (h : Fin 16) (l : Fin 8192) (d : Fin 64) : EReal :=
  Ideal.div (∑ r : Fin 4, X (ix5 r b h l d)) (Ideal.ofBits .f32 0x40800000#32)

theorem mean_v100 (b : Fin 2) (l : Fin 8192) (k : Fin 1024) :
    (after hostOps2_4 V (Proc.devRef .tc main_v100) : S16384x1024.Idx → EReal) (ix2 ⟨b.1 * 8192 + l.1, by omega⟩ k)
     = mean (V (Proc.devRef .tc main_v95)) b ⟨k.1 / 64, by omega⟩ l ⟨k.1 % 64, by omega⟩ := by
  after_reads_simp
  pointwise
  rfl

theorem mat_v101 (k j : Fin 1024) :
    (after hostOps2_4 V (Proc.devRef .tc main_v101) : S1024x1024.Idx → EReal) (ix2 k j)
     = (V (Proc.devRef .tc main_arg5) : S1024x1024.Idx → EReal) (ix2 j k) := by
  after_reads_simp
  pointwise

theorem bias_v102 (j : Fin 1024) :
    (after hostOps2_4 V (Proc.devRef .tc main_v102) : S1x1024.Idx → EReal) (ix2 0 j)
     = (V (Proc.devRef .tc main_arg6) : S1024.Idx → EReal) (ix1 j) := by
  after_reads_simp
  pointwise

theorem out_v104 (b : Fin 2) (l : Fin 8192) (j : Fin 1024) :
    (after hostOps3 V (Proc.devRef .tc main_v104) : S2x8192x1024.Idx → EReal) (ix3 b l j)
     = (V (Proc.devRef .tc main_v103) : S16384x1024.Idx → EReal) (ix2 ⟨b.1 * 8192 + l.1, by omega⟩ j) := by
  after_reads_simp
  pointwise

/-- The rows and the matrices of the first two projections. -/
theorem pre_v0 (b : Fin 2) (l : Fin 8192) (k : Fin 1024) :
    (after hostOps0 V (Proc.devRef .tc main_v0) : S16384x1024.Idx → EReal) (ix2 ⟨b.1 * 8192 + l.1, by omega⟩ k)
     = (V (Proc.devRef .tc main_arg0) : S2x8192x1024.Idx → EReal) (ix3 b l k) := by
  after_reads_simp
  pointwise

theorem pre_v1 (k j : Fin 1024) :
    (after hostOps0 V (Proc.devRef .tc main_v1) : S1024x1024.Idx → EReal) (ix2 k j)
     = (V (Proc.devRef .tc main_arg1) : S1024x1024.Idx → EReal) (ix2 j k) := by
  after_reads_simp
  pointwise

theorem pre_v3 (k j : Fin 1024) :
    (after hostOps0 V (Proc.devRef .tc main_v3) : S1024x1024.Idx → EReal) (ix2 k j)
     = (V (Proc.devRef .tc main_arg3) : S1024x1024.Idx → EReal) (ix2 j k) := by
  after_reads_simp
  pointwise

theorem pre_v2 (j : Fin 1024) :
    (after hostOps0 V (Proc.devRef .tc main_v2) : S1x1024.Idx → EReal) (ix2 0 j)
     = (V (Proc.devRef .tc main_arg2) : S1024.Idx → EReal) (ix1 j) := by
  after_reads_simp
  pointwise

theorem pre_v4 (j : Fin 1024) :
    (after hostOps0 V (Proc.devRef .tc main_v4) : S1x1024.Idx → EReal) (ix2 0 j)
     = (V (Proc.devRef .tc main_arg4) : S1024.Idx → EReal) (ix1 j) := by
  after_reads_simp
  pointwise

end Cert.Proof.Ker
-- ==== Proof.RegionProj.lean ====
module

public import proofs.«01_k».proof.Proof.Gen.KernelIdeal.Frame
public import Idealize.ShloMosaic.Lib.Pipeline.ValueKit
public import Idealize.ShloMosaic.Lib.Pointwise

/-!
# What the projection kernels write

Each writes rows times a matrix plus a row of biases.
-/

@[expose] public section
noncomputable section
set_option maxRecDepth 16384

namespace Cert.Proof.Region

open Cert.KernelIdeal Cert.KernelIdeal.Gen
open Idealize.ShloMosaic Idealize.ShloMosaic.TcCoe Idealize.ShloMosaic.Tactic

/-- Rows times a matrix plus a row of biases. -/
def rowsTimes (X : S16384x1024.Idx → EReal) (W : S1024x1024.Idx → EReal) (b : S1x1024.Idx → EReal) (j : S16384x1024.Idx) : EReal :=
  (∑ k : Fin 1024, X (ix2 (j 0) k) * W (ix2 k (j 1))) + b (ix2 0 (j 1))

theorem pay2_apply (x : Vec Ideal S512x1024 .f32) (w : Vec Ideal S1024x1024 .f32) (b : Vec Ideal S1x1024 .f32) (i : Fin 512) (j : Fin 1024) :
    k0_pay2 (F := Ideal) x w b (ix2 i j) = (∑ k : Fin 1024, x (ix2 i k) * w (ix2 k j)) + b (ix2 0 j) := by
  pointwise [k0_pay2, k0_pay1]

theorem pay3_eq (x : Vec Ideal S512x1024 .f32) (w : Vec Ideal S1024x1024 .f32) (b : Vec Ideal S1x1024 .f32) :
    k0_pay3 (F := Ideal) x w b = k0_pay2 x w b := rfl

theorem pay1_eq (x : Vec Ideal S512x1024 .f32) (w : Vec Ideal S1024x1024 .f32) (b : Vec Ideal S1x1024 .f32) :
    k2_pay1 (F := Ideal) x w b = k0_pay2 x w b := rfl

variable (V : (c : Dev nD) → (b : Ref sig .tc) → Buf (Elt Ideal) ((c : Thread nD τ).loc b)) (c : Dev nD)

/-- The windows' blocks at a grid point. -/
theorem idx0 : ∀ t : Fin cfg0.N, win0_0.index t = ![t.1, 0] ∧ win0_1.index t = ![0, 0] ∧ win0_2.index t = ![0, 0]
    ∧ win0_3.index t = ![0, 0] ∧ win0_4.index t = ![0, 0] ∧ win0_5.index t = ![t.1, 0] ∧ win0_6.index t = ![t.1, 0] :=
  (by decide +kernel : ∀ t : Fin grid0.N, _)

/-- The windows' blocks at a grid point of the last kernel. -/
theorem idx2 : ∀ t : Fin cfg2.N, win2_0.index t = ![t.1, 0] ∧ win2_1.index t = ![0, 0] ∧ win2_2.index t = ![0, 0]
    ∧ win2_3.index t = ![t.1, 0] :=
  (by decide +kernel : ∀ t : Fin grid2.N, _)

theorem arr0_5 : (dat0 V c).arrAt 5 cfg0.N = rowsTimes (V c main_v0) (V c main_v1) (V c main_v2) := by
  refine (dat0 V c).arrAt_eq_of_covers 5 _ (by decide +kernel) fun t hf y => ?_
  blk_simp
  rw [after0_5]
  frame_out
  idx_vars y
  rw [pay2_apply]
  unfold rowsTimes
  blk_point [iblk0, idx0 t]

theorem arr0_6 : (dat0 V c).arrAt 6 cfg0.N = rowsTimes (V c main_v0) (V c main_v3) (V c main_v4) := by
  refine (dat0 V c).arrAt_eq_of_covers 6 _ (by decide +kernel) fun t hf y => ?_
  blk_simp
  rw [after0_6]
  frame_out
  idx_vars y
  rw [pay3_eq, pay2_apply]
  unfold rowsTimes
  blk_point [iblk0, idx0 t]

theorem arr2_3 : (dat2 V c).arrAt 3 cfg2.N = rowsTimes (V c main_v100) (V c main_v101) (V c main_v102) := by
  refine (dat2 V c).arrAt_eq_of_covers 3 _ (by decide +kernel) fun t hf y => ?_
  blk_simp
  rw [after2_3]
  frame_out
  idx_vars y
  rw [pay1_eq, pay2_apply]
  unfold rowsTimes
  blk_point [iblk2, idx2 t]

end Cert.Proof.Region
-- ==== Proof.AttnRun.lean ====
module

public import proofs.«01_k».proof.Proof.Gen.KernelIdeal.Frame

/-!
# What one grid point of the attention call writes

A trip of the loop over the query blocks writes one block of 128 rows, computed from that block's
queries and from a window of 256 keys, values and buckets.  After all trips the output's block is
what these trips wrote, row block by row block.
-/

@[expose] public section
noncomputable section
set_option maxRecDepth 16384

namespace Cert.Proof.Attn

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F] [Named F]

/-- The entries of an array at the places of a rectangle. -/
def ext {s : Shape} {e : EltTy} (x : Vec F s e) (r : Rect s) : Vec F r.shape e := fun y => x (r.emb y)

/-- The block of 128 rows that trip `k` computes from the whole rows, values and buckets. -/
def blk (x0 x1 : Vec F S1x8192x64 .f32) (x2 : Vec F S1x1x8192 .i32) (x3 : Vec F S1x8192x1 .i32)
    (k : Fin k1_t1_loop.trips) : FVec F S1x128x64 .f32 :=
  k1_pay1 (k1_pay2 (ext x1 (Rect.unit (s := S1x8192x64) (k1_off2 k) S1x256x64.size (k1_off2_inb k))))
    (k1_pay3 (ext x0 (Rect.unit (s := S1x8192x64) (k1_off1 k) S1x128x64.size (k1_off1_inb k)))
      (ext x0 (Rect.unit (s := S1x8192x64) (k1_off2 k) S1x256x64.size (k1_off2_inb k))))
    (k1_pay4 0#32 1#32 k) (k1_pay5 0#32 1#32 k)
    (k1_pay6 0#32 1#32 k (ext x3 (Rect.unit (s := S1x8192x1) (k1_off3 k) S1x128x1.size (k1_off3_inb k)))
      (ext x2 (Rect.unit (s := S1x1x8192) (k1_off4 k) S1x1x256.size (k1_off4_inb k))))
    64#32 (k1_pay7 0#32 1#32 k) (k1_pay8 0#32 1#32 k) (k1_pay9 0#32 1#32 k)

/-- Reading a rectangle of a whole buffer that holds `x` is reading `x` at the rectangle's places. -/
theorem readAt_unread {sp : Space} {s : Shape} {e : EltTy} (a : Memref sig .tc sp s e) (h : a.IsWhole) (x : Vec F s e) (r : Rect s) :
    a.view.readAt (Elt F) r.toLoadRect (h.unread x) = ext x r := by
  rw [View.readAt_eq_ld, Memref.IsWhole.read_unread]
  rfl

variable (c : Dev nD) (i : grid1.Coords) (arg1 : Memref sig .tc .vmem S1x8192x64 .f32) (harg1 : arg1.IsWhole)
  (arg2 : Memref sig .tc .vmem S1x8192x64 .f32) (harg2 : arg2.IsWhole) (arg3 : Memref sig .tc .vmem S1x1x8192 .i32) (harg3 : arg3.IsWhole)
  (arg4 : Memref sig .tc .vmem S1x8192x1 .i32) (harg4 : arg4.IsWhole) (arg5 : Memref sig .tc .vmem S1x8192x64 .f32) (harg5 : arg5.IsWhole)
  (x0 x1 : Vec F S1x8192x64 .f32) (x2 : Vec F S1x1x8192 .i32) (x3 : Vec F S1x8192x1 .i32)

/-- One trip writes one piece: its block, at its rows. -/
theorem tripL_eq (k : Fin k1_t1_loop.trips) :
    tripL_k1_t1 Variants.none c none i arg1 harg1 arg2 harg2 arg3 harg3 arg4 harg4 arg5 harg5
      (harg1.unread x0) (harg2.unread x1) (harg3.unread x2) (harg4.unread x3) k
      = [⟨Rect.unit (s := S1x8192x64) (k1_off1 k) S1x128x64.size (k1_off1_inb k), blk x0 x1 x2 x3 k⟩] := by
  unfold blk
  rw [← readAt_unread arg2 harg2 x1 (Rect.unit (s := S1x8192x64) (k1_off2 k) S1x256x64.size (k1_off2_inb k)),
    ← readAt_unread arg1 harg1 x0 (Rect.unit (s := S1x8192x64) (k1_off1 k) S1x128x64.size (k1_off1_inb k)),
    ← readAt_unread arg1 harg1 x0 (Rect.unit (s := S1x8192x64) (k1_off2 k) S1x256x64.size (k1_off2_inb k)),
    ← readAt_unread arg4 harg4 x3 (Rect.unit (s := S1x8192x1) (k1_off3 k) S1x128x1.size (k1_off3_inb k)),
    ← readAt_unread arg3 harg3 x2 (Rect.unit (s := S1x1x8192) (k1_off4 k) S1x1x256.size (k1_off4_inb k))]
  unfold tripL_k1_t1 trip_k1_t1
  dsimp only
  rfl

/-- Every piece that the trips before `n` wrote is some trip's piece. -/
theorem mem_pb (n : ℕ) (hn : n ≤ k1_t1_loop.trips) (p : View.Piece (Elt F) S1x8192x64 .f32)
    (hp : p ∈ pb_k1_t1 Variants.none c none i arg1 harg1 arg2 harg2 arg3 harg3 arg4 harg4 arg5 harg5
      (harg1.unread x0) (harg2.unread x1) (harg3.unread x2) (harg4.unread x3) n) :
    ∃ k : Fin k1_t1_loop.trips, p = ⟨Rect.unit (s := S1x8192x64) (k1_off1 k) S1x128x64.size (k1_off1_inb k), blk x0 x1 x2 x3 k⟩ := by
  induction n with
  | zero => exact absurd hp (by unfold pb_k1_t1; exact List.not_mem_nil)
  | succ n ih =>
    rw [pb_k1_t1_succ Variants.none c none i arg1 harg1 arg2 harg2 arg3 harg3 arg4 harg4 arg5 harg5 _ _ _ _ ⟨n, hn⟩, tripL_eq] at hp
    rcases List.mem_append.mp hp with h | h
    · exact ⟨⟨n, hn⟩, List.mem_singleton.mp h⟩
    · exact ih (Nat.le_of_succ_le hn) h

/-- The output block after the body: any function whose rows in trip `k`'s block are that trip's. -/
theorem out_eq (G : S1x8192x64.Idx → F .f32)
    (hG : ∀ (k : Fin k1_t1_loop.trips) (y : S1x128x64.Idx),
      blk x0 x1 x2 x3 k y = G ((Rect.unit (s := S1x8192x64) (k1_off1 k) S1x128x64.size (k1_off1_inb k)).emb y)) :
    out1_A_4 c i arg1 harg1 arg2 harg2 arg3 harg3 arg4 harg4 arg5 harg5 x0 x1 x2 x3 = G := by
  funext y
  unfold out1_A_4
  refine View.read_writes_apply_of_pieces _ _ G _ ?_ y (cover1_A_4 c i arg1 harg1 arg2 harg2 arg3 harg3 arg4 harg4 arg5 harg5 x0 x1 x2 x3 y)
  intro p hp x
  obtain ⟨k, rfl⟩ := mem_pb c i arg1 harg1 arg2 harg2 arg3 harg3 arg4 harg4 arg5 harg5 x0 x1 x2 x3 _ le_rfl p (by
    unfold kernelRun1_A at hp
    dsimp only at hp
    exact hp)
  exact hG k x

end Cert.Proof.Attn
-- ==== Proof.AttnThr.lean ====
module

public import proofs.«01_k».proof.Proof.Spec

/-!
# The first key that a row of the attention call looks at
-/

@[expose] public section
noncomputable section
set_option maxRecDepth 16384

namespace Cert.Proof.Attn

open Idealize.ShloMosaic

/-- The first key of a row's own chunk less a chunk, as the kernel computes it. -/
theorem thr_word : ∀ n : Fin 8192, IntOp.subi (IntOp.muli (Scalar.select
    (IntOp.andi (IntOp.cmpi .ne (IntOp.subi (BitVec.setWidth 32 (IntOp.cmpi .sgt (BitVec.ofNat 32 n.1) 0#32)) (BitVec.setWidth 32 (IntOp.cmpi .slt (BitVec.ofNat 32 n.1) 0#32)))
        (Scalar.subi (Scalar.extui (Scalar.cmpi CmpIPredicate.sgt 64#32 0#32)) (Scalar.extui (Scalar.cmpi CmpIPredicate.slt 64#32 0#32))))
      (IntOp.cmpi .ne (IntOp.remsi .vector (BitVec.ofNat 32 n.1) 64#32) 0#32)) (IntOp.subi (IntOp.divsi .vector (BitVec.ofNat 32 n.1) 64#32) 1#32)
      (IntOp.divsi .vector (BitVec.ofNat 32 n.1) 64#32)) 64#32) 64#32 = if n.1 < 64 then BitVec.ofInt 32 (-64) else BitVec.ofNat 32 (n.1 / 64 * 64 - 64) := by
  decide +kernel

end Cert.Proof.Attn
-- ==== Proof.AttnWord.lean ====
module

public import proofs.«01_k».proof.Proof.AttnThr
public import Idealize.ShloMosaic.Lib.Tactic.WordOmega

/-!
# The words of the attention call's offsets and of its mask

What the counter, the starts of the rows and of the window, and the mask's terms are as numbers.
-/

@[expose] public section
noncomputable section
set_option maxRecDepth 16384

namespace Cert.Proof.Attn

open Idealize.ShloMosaic

/-- The rows of trip `k` start at `128 * k`. -/
theorem row_word : ∀ k : Fin 64, Scalar.muli (BitVec.ofNat 32 k.1) 128#32 = BitVec.ofNat 32 (128 * k.1) := by decide +kernel

/-- The window of trip `k` starts a block before, and at the start for the first. -/
theorem win_word : ∀ k : Fin 64, Scalar.muli (Scalar.maxsi (Scalar.subi (BitVec.ofNat 32 k.1) 1#32) 0#32) 128#32
    = BitVec.ofNat 32 (128 * (k.1 - 1)) := by decide +kernel

theorem row_toNat : ∀ k : Fin 64, (Scalar.indexCast (Scalar.muli (BitVec.ofNat 32 k.1) 128#32) : Index).toNat = 128 * k.1 := by
  decide +kernel

theorem win_toNat : ∀ k : Fin 64, (Scalar.indexCast (Scalar.muli (Scalar.maxsi (Scalar.subi (BitVec.ofNat 32 k.1) 1#32) 0#32) 128#32) : Index).toNat
    = 128 * (k.1 - 1) := by decide +kernel

/-- The mask's last term, from the words it is computed of. -/
def maskOf (v26 v28 : BitVec 32) (v33 : BitVec 1) (v35 v38 : BitVec 32) (v40 : BitVec 1) : BitVec 1 :=
  IntOp.ori v33 (IntOp.cmpi .slt v28 (IntOp.subi (IntOp.muli (Scalar.select
    (IntOp.andi (IntOp.cmpi .ne (IntOp.subi v38 (BitVec.setWidth 32 v40))
        (Scalar.subi (Scalar.extui (Scalar.cmpi CmpIPredicate.sgt 64#32 0#32)) (Scalar.extui (Scalar.cmpi CmpIPredicate.slt 64#32 0#32))))
      (IntOp.cmpi .ne (IntOp.remsi .vector v26 64#32) 0#32)) (IntOp.subi v35 1#32) v35) 64#32) 64#32))

/-- The whole mask of a row against a key of its window. -/
theorem mask_eq (b : Fin 8192 → BitVec 32) (l w : Fin 8192) :
    maskOf (BitVec.ofNat 32 l.1) (BitVec.ofNat 32 w.1)
      (IntOp.ori (IntOp.cmpi .ne (b l) (b w)) (IntOp.cmpi .sgt (BitVec.ofNat 32 w.1) (BitVec.ofNat 32 l.1)))
      (IntOp.divsi .vector (BitVec.ofNat 32 l.1) 64#32) (BitVec.setWidth 32 (IntOp.cmpi .sgt (BitVec.ofNat 32 l.1) 0#32))
      (IntOp.cmpi .slt (BitVec.ofNat 32 l.1) 0#32) = if Spec.sel b l w then 0#1 else 1#1 := by
  unfold maskOf
  rw [thr_word l]
  have h1 := l.2
  have h2 := w.2
  have e1 : IntOp.cmpi .sgt (BitVec.ofNat 32 w.1) (BitVec.ofNat 32 l.1) = if l.1 < w.1 then 1#1 else 0#1 := by
    word_omega
  have e2 : IntOp.cmpi .slt (BitVec.ofNat 32 w.1) (if l.1 < 64 then BitVec.ofInt 32 (-64) else BitVec.ofNat 32 (l.1 / 64 * 64 - 64))
      = if w.1 + 64 < l.1 / 64 * 64 then 1#1 else 0#1 := by
    split <;> word_omega
  have e3 : IntOp.cmpi .ne (b l) (b w) = if b w = b l then 0#1 else 1#1 := by
    by_cases h : b w = b l
    · rw [if_pos h, h]; simp [IntOp.cmpi]
    · rw [if_neg h]; simp [IntOp.cmpi, bne_iff_ne, Ne.symm h, show (b l != b w) = true from bne_iff_ne.mpr (Ne.symm h)]
  rw [e1, e2, e3]
  by_cases h : Spec.sel b l w
  · rw [if_pos h]
    obtain ⟨a1, a2, a3⟩ := h
    rw [if_pos a1, if_neg (by omega), if_neg (by omega)]
    rfl
  · rw [if_neg h]
    by_cases c1 : b w = b l
    · by_cases c2 : l.1 < w.1
      · rw [if_pos c1, if_pos c2]
        split <;> rfl
      · rw [if_pos c1, if_neg c2, if_pos (by
          by_contra c3
          exact h ⟨c1, by omega, by omega⟩)]
        rfl
    · rw [if_neg c1]
      split <;> split <;> rfl

end Cert.Proof.Attn
-- ==== Proof.AttnVal.lean ====
module

public import proofs.«01_k».proof.Proof.AttnRun
public import proofs.«01_k».proof.Proof.AttnWord
public import proofs.«01_k».proof.Proof.SpecLemmas
public import Idealize.ShloMosaic.Lib.Pipeline.ValueKit
public import Idealize.ShloMosaic.Lib.Pointwise

/-!
# The block of one trip, entry by entry

On the extended reals an entry of the block of 128 rows is the attention of its row over the keys
that the row looks at: all of them lie in the window of 256.
-/

@[expose] public section
noncomputable section
set_option maxRecDepth 16384

namespace Cert.Proof.Attn

open Cert.KernelIdeal Cert.KernelIdeal.Gen
open Idealize.ShloMosaic Idealize.ShloMosaic.TcCoe Idealize.ShloMosaic.Tactic

/-- There are 64 trips. -/
theorem trips_lt (k : Fin k1_t1_loop.trips) : k.1 < 64 := lt_of_lt_of_le k.2 (by decide)

/-- The counter of trip `k` is `k`. -/
theorem iv_eq (k : ℕ) : Scf.iv 0#32 1#32 k = BitVec.ofNat 32 k := by
  unfold Scf.iv
  simp

theorem pay2_apply (v : Vec Ideal S1x256x64 .f32) (j : Fin 256) (d : Fin 64) : k1_pay2 v (ix2 j d) = v (ix3 0 j d) := by
  pointwise [k1_pay2]

theorem pay3_apply (v6 : Vec Ideal S1x128x64 .f32) (v9 : Vec Ideal S1x256x64 .f32) (i : Fin 128) (j : Fin 256) :
   k1_pay3 (F := Ideal) v6 v9 (ix2 i j) = Ideal.div (∑ d : Fin 64, v6 (ix3 0 i d) * v9 (ix3 0 j d)) (Ideal.ofBits .f32 0x41000000#32) := by
  pointwise [k1_pay3]

theorem pay4_apply (k : Fin k1_t1_loop.trips) (i : Fin 128) (j : Fin 256) :
   k1_pay4 0#32 1#32 k (ix2 i j) = BitVec.ofNat 32 (128 * k.1 + i.1) := by
  have := trips_lt k
  pointwise [k1_pay4]
  rw [iv_eq, row_word ⟨k.1, this⟩, BitVec.ofNat_add]
  rfl

theorem pay5_apply (k : Fin k1_t1_loop.trips) (i : Fin 128) (j : Fin 256) :
   k1_pay5 0#32 1#32 k (ix2 i j) = BitVec.ofNat 32 (128 * (k.1 - 1) + j.1) := by
  have := trips_lt k
  pointwise [k1_pay5]
  rw [iv_eq, win_word ⟨k.1, this⟩, BitVec.ofNat_add]
  rfl

theorem pay6_apply (k : Fin k1_t1_loop.trips) (v15 : Vec Ideal S1x128x1 .i32) (v18 : Vec Ideal S1x1x256 .i32) (i : Fin 128) (j : Fin 256) :
   k1_pay6 0#32 1#32 k v15 v18 (ix2 i j) = IntOp.ori (IntOp.cmpi .ne (v15 (ix3 0 i 0)) (v18 (ix3 0 0 j)))
    (IntOp.cmpi .sgt (k1_pay5 0#32 1#32 k (ix2 i j)) (k1_pay4 0#32 1#32 k (ix2 i j))) := by
  pointwise [k1_pay6]
theorem pay7_apply (k : Fin k1_t1_loop.trips) (i : Fin 128) (j : Fin 256) :
   k1_pay7 0#32 1#32 k (ix2 i j) = IntOp.divsi .vector (k1_pay4 0#32 1#32 k (ix2 i j)) 64#32 := by
  pointwise [k1_pay7]
theorem pay8_apply (k : Fin k1_t1_loop.trips) (i : Fin 128) (j : Fin 256) :
   k1_pay8 0#32 1#32 k (ix2 i j) = BitVec.setWidth 32 (IntOp.cmpi .sgt (k1_pay4 0#32 1#32 k (ix2 i j)) 0#32) := by
  pointwise [k1_pay8]
theorem pay9_apply (k : Fin k1_t1_loop.trips) (i : Fin 128) (j : Fin 256) :
   k1_pay9 0#32 1#32 k (ix2 i j) = IntOp.cmpi .slt (k1_pay4 0#32 1#32 k (ix2 i j)) 0#32 := by
  pointwise [k1_pay9]

theorem pay1_apply (v13 : FVec Ideal S256x64 .f32) (v22 : FVec Ideal S128x256 .f32) (v26 v28 : IVec S128x256 32)
    (v33 : IVec S128x256 1) (v35 v38 : IVec S128x256 32) (v40 : IVec S128x256 1) (i : Fin 128) (d : Fin 64)
    (m : Fin 256 → BitVec 1) (hm : ∀ j, maskOf (v26 (ix2 i j)) (v28 (ix2 i j)) (v33 (ix2 i j)) (v35 (ix2 i j)) (v38 (ix2 i j)) (v40 (ix2 i j)) = m j) :
   k1_pay1 (F := Ideal) v13 v22 v26 v28 v33 64#32 v35 v38 v40 (ix3 0 i d) =
    Ideal.div (∑ j : Fin 256, Scalar.select (m j) 0 (Ideal.exp (Scalar.select (m j) ⊥ (v22 (ix2 i j)) -
      Finset.fold max ⊥ (fun j => Scalar.select (m j) ⊥ (v22 (ix2 i j))) Finset.univ)) * v13 (ix2 j d))
     (∑ j : Fin 256, Scalar.select (m j) 0 (Ideal.exp (Scalar.select (m j) ⊥ (v22 (ix2 i j)) -
      Finset.fold max ⊥ (fun j => Scalar.select (m j) ⊥ (v22 (ix2 i j))) Finset.univ))) := by
  unfold maskOf at hm
  pointwise [k1_pay1]
  simp only [hm]
  have hk : (Named.named (F := Ideal) (φ := .f32) κ "mask" (4048155338#32 : BitVec 32)) = (⊥ : EReal) :=
    IdealRules.named_const.ideal_named_scalar κ "mask" _ ⊥ rfl
  rw [hk]
  rw [show Ideal.ofBits FTy.f32 4286578688#32 = (⊥ : EReal) from Spec.neg_inf]

theorem off1 (k : Fin k1_t1_loop.trips) : k1_off1 k = ![0, 128 * k.1, 0] := by
  unfold k1_off1
  dsimp only
  rw [iv_eq, row_toNat ⟨k.1, trips_lt k⟩]

theorem off3 (k : Fin k1_t1_loop.trips) : k1_off3 k = ![0, 128 * k.1, 0] := by
  unfold k1_off3
  dsimp only
  rw [iv_eq, row_toNat ⟨k.1, trips_lt k⟩]

theorem off2 (k : Fin k1_t1_loop.trips) : k1_off2 k = ![0, 128 * (k.1 - 1), 0] := by
  unfold k1_off2
  dsimp only
  rw [iv_eq, win_toNat ⟨k.1, trips_lt k⟩]

theorem off4 (k : Fin k1_t1_loop.trips) : k1_off4 k = ![0, 0, 128 * (k.1 - 1)] := by
  unfold k1_off4
  dsimp only
  rw [iv_eq, win_toNat ⟨k.1, trips_lt k⟩]

theorem ext1_apply (x : Vec Ideal S1x8192x64 .f32) (k : Fin k1_t1_loop.trips) (i : Fin 128) (d : Fin 64) (l : Fin 8192) (hl : l.1 = 128 * k.1 + i.1) :
    ext x (Rect.unit (s := S1x8192x64) (k1_off1 k) S1x128x64.size (k1_off1_inb k)) (ix3 0 i d) = x (ix3 0 l d) := by
  unfold ext
  congr 1
  funext a
  apply Fin.ext
  refine (ValueKit.rect_emb_unit_val _ _ _ _ a).trans ?_
  refine (congrArg (· + _) (congrFun (off1 k) a)).trans ?_
  fin_cases a
  · rfl
  · exact hl.symm
  · exact Nat.zero_add _

theorem ext3_apply (x : Vec Ideal S1x8192x1 .i32) (k : Fin k1_t1_loop.trips) (i : Fin 128) (l : Fin 8192) (hl : l.1 = 128 * k.1 + i.1) :
    ext x (Rect.unit (s := S1x8192x1) (k1_off3 k) S1x128x1.size (k1_off3_inb k)) (ix3 0 i 0) = x (ix3 0 l 0) := by
  unfold ext
  congr 1
  funext a
  apply Fin.ext
  refine (ValueKit.rect_emb_unit_val _ _ _ _ a).trans ?_
  refine (congrArg (· + _) (congrFun (off3 k) a)).trans ?_
  fin_cases a
  · rfl
  · exact hl.symm
  · rfl

theorem ext2_apply (x : Vec Ideal S1x8192x64 .f32) (k : Fin k1_t1_loop.trips) (j : Fin 256) (d : Fin 64) (l : Fin 8192) (hl : l.1 = 128 * (k.1 - 1) + j.1) :
    ext x (Rect.unit (s := S1x8192x64) (k1_off2 k) S1x256x64.size (k1_off2_inb k)) (ix3 0 j d) = x (ix3 0 l d) := by
  unfold ext
  congr 1
  funext a
  apply Fin.ext
  refine (ValueKit.rect_emb_unit_val _ _ _ _ a).trans ?_
  refine (congrArg (· + _) (congrFun (off2 k) a)).trans ?_
  fin_cases a
  · rfl
  · exact hl.symm
  · exact Nat.zero_add _

theorem ext4_apply (x : Vec Ideal S1x1x8192 .i32) (k : Fin k1_t1_loop.trips) (j : Fin 256) (l : Fin 8192) (hl : l.1 = 128 * (k.1 - 1) + j.1) :
    ext x (Rect.unit (s := S1x1x8192) (k1_off4 k) S1x1x256.size (k1_off4_inb k)) (ix3 0 0 j) = x (ix3 0 0 l) := by
  unfold ext
  congr 1
  funext a
  apply Fin.ext
  refine (ValueKit.rect_emb_unit_val _ _ _ _ a).trans ?_
  refine (congrArg (· + _) (congrFun (off4 k) a)).trans ?_
  fin_cases a
  · rfl
  · rfl
  · exact hl.symm

theorem select_if (p : Prop) [Decidable p] (a b : EReal) : Scalar.select (if p then 0#1 else 1#1) a b = if p then b else a := by
  by_cases h : p <;> simp [h, Scalar.select]

/-- An entry of the block of trip `k`: the attention of row `128 * k + i`. -/
theorem blk_apply (x0 x1 : Vec Ideal S1x8192x64 .f32) (x2 : Vec Ideal S1x1x8192 .i32) (x3 : Vec Ideal S1x8192x1 .i32)
    (b : Fin 8192 → BitVec 32) (h2 : ∀ l, x2 (ix3 0 0 l) = b l) (h3 : ∀ l, x3 (ix3 0 l 0) = b l)
    (k : Fin k1_t1_loop.trips) (i : Fin 128) (d : Fin 64) (l : Fin 8192) (hl : l.1 = 128 * k.1 + i.1) :
    blk x0 x1 x2 x3 k (ix3 0 i d) = Spec.attn b (fun l d => x0 (ix3 0 l d)) (fun l d => x1 (ix3 0 l d)) l d := by
  have hk := trips_lt k
  let w : Fin 256 → Fin 8192 := fun j => ⟨128 * (k.1 - 1) + j.1, by omega⟩
  have hm : ∀ j : Fin 256, maskOf (k1_pay4 0#32 1#32 k (ix2 i j)) (k1_pay5 0#32 1#32 k (ix2 i j))
      (k1_pay6 (F := Ideal) 0#32 1#32 k (ext x3 (Rect.unit (s := S1x8192x1) (k1_off3 k) S1x128x1.size (k1_off3_inb k)))
        (ext x2 (Rect.unit (s := S1x1x8192) (k1_off4 k) S1x1x256.size (k1_off4_inb k))) (ix2 i j))
      (k1_pay7 0#32 1#32 k (ix2 i j)) (k1_pay8 0#32 1#32 k (ix2 i j)) (k1_pay9 0#32 1#32 k (ix2 i j))
      = if Spec.sel b l (w j) then 0#1 else 1#1 := by
    intro j
    rw [pay6_apply, pay7_apply, pay8_apply, pay9_apply, pay4_apply, pay5_apply, ext3_apply x3 k i l hl, ext4_apply x2 k j (w j) rfl, h2, h3,
      ← hl]
    exact mask_eq b l (w j)
  unfold blk
  rw [pay1_apply _ _ _ _ _ _ _ _ i d _ hm]
  have hv : ∀ j : Fin 256, k1_pay2 (ext x1 (Rect.unit (s := S1x8192x64) (k1_off2 k) S1x256x64.size (k1_off2_inb k))) (ix2 j d) = x1 (ix3 0 (w j) d) :=
    fun j => (pay2_apply _ j d).trans (ext2_apply x1 k j d (w j) rfl)
  have hs : ∀ j : Fin 256, k1_pay3 (F := Ideal) (ext x0 (Rect.unit (s := S1x8192x64) (k1_off1 k) S1x128x64.size (k1_off1_inb k)))
      (ext x0 (Rect.unit (s := S1x8192x64) (k1_off2 k) S1x256x64.size (k1_off2_inb k))) (ix2 i j)
      = Spec.score (fun l d => x0 (ix3 0 l d)) l (w j) := by
    intro j
    rw [pay3_apply]
    unfold Spec.score
    refine congrArg (fun z => Ideal.div z _) (Finset.sum_congr rfl fun d _ => ?_)
    rw [ext1_apply x0 k i d l hl, ext2_apply x0 k j d (w j) rfl]
  simp only [hv, hs, select_if, Spec.fold_sup]
  have hcov : ∀ k' : Fin 8192, Spec.sel b l k' → ∃ j : Fin 256, True ∧ w j = k' := by
    intro k' h
    refine ⟨⟨k'.1 - 128 * (k.1 - 1), ?_⟩, trivial, Fin.ext ?_⟩
    · have := h.2.1; have := h.2.2; omega
    · have := h.2.1; have := h.2.2; show 128 * (k.1 - 1) + (k'.1 - 128 * (k.1 - 1)) = k'.1; omega
  have hinj : ∀ i j : Fin 256, True → True → w i = w j → i = j := by
    intro i j _ _ h
    have := congrArg Fin.val h
    apply Fin.ext
    have h' : 128 * (k.1 - 1) + i.1 = 128 * (k.1 - 1) + j.1 := this
    omega
  have htop := Spec.sup_window (fun _ : Fin 256 => True) w (fun k' => if Spec.sel b l k' then Spec.score (fun l d => x0 (ix3 0 l d)) l k' else ⊥)
    (fun k' h => hcov k' (by by_contra hc; exact h (if_neg hc)))
  simp only [if_true] at htop
  rw [htop]
  have hw : ∀ k' : Fin 8192, (if Spec.sel b l k' then Ideal.exp ((if Spec.sel b l k' then Spec.score (fun l d => x0 (ix3 0 l d)) l k' else ⊥)
      - Finset.univ.sup fun k' => if Spec.sel b l k' then Spec.score (fun l d => x0 (ix3 0 l d)) l k' else ⊥) else 0)
      = Spec.wt b (fun l d => x0 (ix3 0 l d)) l k' := by
    intro k'
    unfold Spec.wt Spec.top
    by_cases h : Spec.sel b l k'
    · simp only [if_pos h]
    · simp only [if_neg h]
  simp only [hw]
  unfold Spec.attn
  have hz : ∀ k', ¬ Spec.sel b l k' → Spec.wt b (fun l d => x0 (ix3 0 l d)) l k' = 0 := fun k' h => if_neg h
  have s1 := Spec.sum_window (fun _ : Fin 256 => True) w hinj (fun k' => Spec.wt b (fun l d => x0 (ix3 0 l d)) l k' * x1 (ix3 0 k' d))
    (fun k' h => hcov k' (by by_contra hc; exact h (by rw [hz k' hc, zero_mul])))
  have s2 := Spec.sum_window (fun _ : Fin 256 => True) w hinj (fun k' => Spec.wt b (fun l d => x0 (ix3 0 l d)) l k')
    (fun k' h => hcov k' (by by_contra hc; exact h (hz k' hc)))
  simp only [if_true] at s1 s2
  rw [s1, s2]

end Cert.Proof.Attn
-- ==== Proof.RegionAttn.lean ====
module

public import proofs.«01_k».proof.Proof.AttnVal

/-!
# What the attention kernel writes

Every head of every round is the attention of its rows.
-/

@[expose] public section
noncomputable section
set_option maxRecDepth 16384

namespace Cert.Proof.Region

open Cert.KernelIdeal Cert.KernelIdeal.Gen
open Idealize.ShloMosaic Idealize.ShloMosaic.TcCoe Idealize.ShloMosaic.Tactic

variable (V : (c : Dev nD) → (b : Ref sig .tc) → Buf (Elt Ideal) ((c : Thread nD τ).loc b)) (c : Dev nD)

/-- The windows' blocks at a grid point. -/
theorem idx1 : ∀ t : Fin cfg1.N, win1_0.index t = ![t.1, 0, 0] ∧ win1_1.index t = ![t.1, 0, 0] ∧ win1_2.index t = ![t.1, 0, 0]
    ∧ win1_3.index t = ![t.1, 0, 0] ∧ win1_4.index t = ![t.1, 0, 0] :=
  (by decide +kernel : ∀ t : Fin grid1.N, _)

theorem N_lt (t : Fin cfg1.N) : t.1 < 128 := lt_of_lt_of_le t.2 (by decide)

theorem emb_eq (t : Fin cfg1.N) (l : Fin 8192) (d : Fin 64) :
   (win1_4.blk t).view.emb (ix3 0 l d) = ix3 ⟨t.1, N_lt t⟩ l d := by
  blk_ext [idx1 t]

theorem iblk_0 (t : Fin cfg1.N) (l : Fin 8192) (d : Fin 64) :
   iblk1 V c 0 t (ix3 0 l d) = (V c main_v87 : S128x8192x64.Idx → EReal) (ix3 ⟨t.1, N_lt t⟩ l d) := by
  blk_ext [iblk1, idx1 t]
theorem iblk_1 (t : Fin cfg1.N) (l : Fin 8192) (d : Fin 64) :
   iblk1 V c 1 t (ix3 0 l d) = (V c main_v88 : S128x8192x64.Idx → EReal) (ix3 ⟨t.1, N_lt t⟩ l d) := by
  blk_ext [iblk1, idx1 t]
theorem iblk_2 (t : Fin cfg1.N) (l : Fin 8192) :
   iblk1 V c 2 t (ix3 0 0 l) = (V c main_v89 : S128x1x8192.Idx → BitVec 32) (ix3 ⟨t.1, N_lt t⟩ 0 l) := by
  blk_ext [iblk1, idx1 t]
theorem iblk_3 (t : Fin cfg1.N) (l : Fin 8192) :
   iblk1 V c 3 t (ix3 0 l 0) = (V c main_v90 : S128x8192x1.Idx → BitVec 32) (ix3 ⟨t.1, N_lt t⟩ l 0) := by
  blk_ext [iblk1, idx1 t]

/-- Attention of every row of every array. -/
def attnArr (X Y : S128x8192x64.Idx → EReal) (b : Fin 128 → Fin 8192 → BitVec 32) (j : S128x8192x64.Idx) : EReal :=
  Spec.attn (b (j 0)) (fun l d => X (ix3 (j 0) l d)) (fun l d => Y (ix3 (j 0) l d)) (j 1) (j 2)

theorem arr1_4 (X : S128x8192x64.Idx → EReal) (Y : S128x8192x64.Idx → EReal) (b : Fin 128 → Fin 8192 → BitVec 32)
   (hX : V c main_v87 = X) (hY : V c main_v88 = Y) (h2 : ∀ g l, (V c main_v89 : S128x1x8192.Idx → BitVec 32) (ix3 g 0 l) = b g l)
   (h3 : ∀ g l, (V c main_v90 : S128x8192x1.Idx → BitVec 32) (ix3 g l 0) = b g l) :
  (dat1 V c).arrAt 4 cfg1.N = attnArr X Y b := by
  refine (dat1 V c).arrAt_eq_of_covers 4 _ (by decide +kernel) fun t hf y => ?_
  idx_vars y
  obtain rfl : y0 = 0 := Subsingleton.elim _ _
  refine Eq.trans ?_ (congrArg (attnArr X Y b) (emb_eq t y1 y2)).symm
  blk_simp
  rw [after1_4]
  unfold outsAt1
  rw [Attn.out_eq (G := fun y => attnArr X Y b (ix3 ⟨t.1, N_lt t⟩ (y 1) (y 2)))]
  · rfl
  intro k y
  idx_vars y
  obtain rfl : y0 = 0 := Subsingleton.elim _ _
  have hk := Attn.trips_lt k
  have e1 : ((Rect.unit (s := S1x8192x64) (k1_off1 k) S1x128x64.size (k1_off1_inb k)).emb (ix3 0 y1 y2)) = ix3 0 ⟨128 * k.1 + y1.1, by omega⟩ y2 := by
    funext a
    apply Fin.ext
    refine (ValueKit.rect_emb_unit_val _ _ _ _ a).trans ?_
    refine (congrArg (· + _) (congrFun (Attn.off1 k) a)).trans ?_
    fin_cases a
    · rfl
    · rfl
    · exact Nat.zero_add _
  rw [e1, Attn.blk_apply _ _ _ _ (b ⟨t.1, N_lt t⟩) (fun l => (iblk_2 V c t l).trans (h2 _ _)) (fun l => (iblk_3 V c t l).trans (h3 _ _)) k y1 y2 ⟨128 * k.1 + y1.1, by omega⟩ rfl]
  unfold attnArr
  simp only [iblk_0, iblk_1, hX, hY]
  rfl

end Cert.Proof.Region
-- ==== Proof.KerVal.lean ====
module

public import proofs.«01_k».proof.Proof.KerChain
public import proofs.«01_k».proof.Proof.KerStack
public import proofs.«01_k».proof.Proof.KerRows
public import proofs.«01_k».proof.Proof.KerBack
public import proofs.«01_k».proof.Proof.RegionProj
public import proofs.«01_k».proof.Proof.RegionAttn

/-!
# What the kernel returns

The rounds' orders and buckets, the sorted rows, the attention of every sorted row, the way back, the
mean of the rounds and the output projection, one after the other.
-/

@[expose] public section
noncomputable section
set_option maxRecDepth 16384

namespace Cert.Proof.Ker

open Cert.KernelIdeal Cert.KernelIdeal.Gen Idealize.ShloMosaic Idealize.ShloMosaic.TcCoe
open Idealize.ShloMosaic.StableHlo Idealize.ShloMosaic.Tactic

variable (m : (ℓ : Loc nD τ sig) → Buf (Elt Ideal) ℓ) (ρ : Dev nD → PrngReg) (c : Dev nD)

/-- The sorted order of every head of every batch in every round. -/
abbrev sm (r : Fin 4) (b : Fin 2) (h : Fin 16) : Fin 8192 → Fin 8192 := Spec.srt (Rm m c r h) (Qm m c b h)

theorem order_w23 (r : Fin 4) (b : Fin 2) (h : Fin 16) (p : Fin 8192) :
    four (W22 m ρ c (Proc.devRef .tc main_v26)) (W22 m ρ c (Proc.devRef .tc main_v39)) (W22 m ρ c (Proc.devRef .tc main_v52)) (W22 m ρ c (Proc.devRef .tc main_v65)) r (ix3 b h p)
     = BitVec.ofNat 32 (sm m c r b h p).1 := by
  rw [keep22 m ρ c main_v26 (by decide), keep17 m ρ c main_v26 (by decide), keep12 m ρ c main_v26 (by decide),
    keep22 m ρ c main_v39 (by decide), keep17 m ρ c main_v39 (by decide), keep22 m ρ c main_v52 (by decide)]
  fin_cases r
  · exact (round_0 m ρ c b h p).1
  · exact (round_1 m ρ c b h p).1
  · exact (round_2 m ρ c b h p).1
  · exact (round_3 m ρ c b h p).1

theorem bucket_w23 (r : Fin 4) (b : Fin 2) (h : Fin 16) (p : Fin 8192) :
    four (W22 m ρ c (Proc.devRef .tc main_v27)) (W22 m ρ c (Proc.devRef .tc main_v40)) (W22 m ρ c (Proc.devRef .tc main_v53)) (W22 m ρ c (Proc.devRef .tc main_v66)) r (ix3 b h p)
     = Spec.bkt (Rm m c r h) (Qm m c b h) (sm m c r b h p) := by
  rw [keep22 m ρ c main_v27 (by decide), keep17 m ρ c main_v27 (by decide), keep12 m ρ c main_v27 (by decide),
    keep22 m ρ c main_v40 (by decide), keep17 m ρ c main_v40 (by decide), keep22 m ρ c main_v53 (by decide)]
  fin_cases r
  · exact (round_0 m ρ c b h p).2
  · exact (round_1 m ρ c b h p).2
  · exact (round_2 m ρ c b h p).2
  · exact (round_3 m ρ c b h p).2

theorem keep_w2 (r : Ref sig .tc) (h3 : r ∉ hostOps1_W) (h7 : r ∉ hostOps1_1_W ++ hostOps1_2_W ++ hostOps1_3_W ++ hostOps1_4_W)
    (h12 : r ∉ hostOps1_5_W ++ hostOps1_6_W ++ hostOps1_7_W ++ hostOps1_8_W ++ hostOps1_9_W)
    (h17 : r ∉ hostOps1_10_W ++ hostOps1_11_W ++ hostOps1_12_W ++ hostOps1_13_W ++ hostOps1_14_W)
    (h22 : r ∉ hostOps1_15_W ++ hostOps1_16_W ++ hostOps1_17_W ++ hostOps1_18_W ++ hostOps1_19_W) :
    W22 m ρ c (Proc.devRef .tc r) = W2 m ρ c (Proc.devRef .tc r) := by
  rw [keep22 m ρ c r h22, keep17 m ρ c r h17, keep12 m ρ c r h12, keep7 m ρ c r h7, W3_of m ρ c r h3]

theorem proj_q (b : Fin 2) (h : Fin 16) (l : Fin 8192) (d : Fin 64) :
    (W22 m ρ c (Proc.devRef .tc main_v5_0) : S16384x1024.Idx → EReal) (ix2 ⟨b.1 * 8192 + l.1, by omega⟩ (Spec.col h d)) = Qm m c b h l d := by
  rw [keep_w2 m ρ c main_v5_0 (by decide) (by decide) (by decide) (by decide) (by decide)]
  refine (congrFun ((W2_arr m ρ c 5).trans (Region.arr0_5 (V1 m ρ) c)) _).trans ?_
  unfold Region.rowsTimes Qm Layer.heads Spec.proj
  refine congrArg₂ (· + ·) (Finset.sum_congr rfl fun k _ => congrArg₂ (· * ·) ?_ ?_) ?_
  · exact pre_v0 (W0 m ρ c) b l k
  · exact pre_v1 (W0 m ρ c) k _
  · exact pre_v2 (W0 m ρ c) _

theorem proj_u (b : Fin 2) (h : Fin 16) (l : Fin 8192) (d : Fin 64) :
    (W22 m ρ c (Proc.devRef .tc main_v5_1) : S16384x1024.Idx → EReal) (ix2 ⟨b.1 * 8192 + l.1, by omega⟩ (Spec.col h d)) = Um m c b h l d := by
  rw [keep_w2 m ρ c main_v5_1 (by decide) (by decide) (by decide) (by decide) (by decide)]
  refine (congrFun ((W2_arr m ρ c 6).trans (Region.arr0_6 (V1 m ρ) c)) _).trans ?_
  unfold Region.rowsTimes Um Layer.heads Spec.proj
  refine congrArg₂ (· + ·) (Finset.sum_congr rfl fun k _ => congrArg₂ (· * ·) ?_ ?_) ?_
  · exact pre_v0 (W0 m ρ c) b l k
  · exact pre_v3 (W0 m ρ c) k _
  · exact pre_v4 (W0 m ρ c) _

theorem order_v71 (r : Fin 4) (b : Fin 2) (h : Fin 16) (l : Fin 8192) :
    (W23 m ρ c (Proc.devRef .tc main_v71) : S4x2x16x8192.Idx → BitVec 32) (ix4 r b h l) = BitVec.ofNat 32 (sm m c r b h l).1 :=
  (stack_v71 (W22 m ρ c) r b h l).trans (order_w23 m ρ c r b h l)

theorem rows_v83 (r : Fin 4) (b : Fin 2) (h : Fin 16) (l : Fin 8192) (d : Fin 64) :
    (W26 m ρ c (Proc.devRef .tc main_v83) : S4x2x16x8192x64.Idx → EReal) (ix5 r b h l d) = Qm m c b h (sm m c r b h l) d := by
  rw [W26_of m ρ c main_v83 (by decide), W25_of m ρ c main_v83 (by decide)]
  refine (take_v83 (W23 m ρ c) r b h l d (sm m c r b h l) ?_).trans ?_
  · exact (stack_v82 (W22 m ρ c) r b h l).trans (order_w23 m ρ c r b h l)
  · exact (stack_v81 (W22 m ρ c) b h _ d).trans (proj_q m ρ c b h _ d)

theorem rows_v86 (r : Fin 4) (b : Fin 2) (h : Fin 16) (l : Fin 8192) (d : Fin 64) :
    (W26 m ρ c (Proc.devRef .tc main_v86) : S4x2x16x8192x64.Idx → EReal) (ix5 r b h l d) = Um m c b h (sm m c r b h l) d := by
  refine (take_v86 (W25 m ρ c) r b h l d (sm m c r b h l) ?_).trans ?_
  · refine (rows_v85 (W24 m ρ c) r b h l).trans ?_
    rw [W24_of m ρ c main_v71 (by decide)]
    exact order_v71 m ρ c r b h l
  · refine (rows_v84 (W24 m ρ c) b h _ d).trans ?_
    rw [W24_of m ρ c main_v80 (by decide)]
    exact (stack_v80 (W22 m ρ c) b h _ d).trans (proj_u m ρ c b h _ d)

theorem rows_v76 (r : Fin 4) (b : Fin 2) (h : Fin 16) (l : Fin 8192) :
    (W26 m ρ c (Proc.devRef .tc main_v76) : S4x2x16x8192.Idx → BitVec 32) (ix4 r b h l) = Spec.bkt (Rm m c r h) (Qm m c b h) (sm m c r b h l) := by
  rw [W26_of m ρ c main_v76 (by decide), W25_of m ρ c main_v76 (by decide), W24_of m ρ c main_v76 (by decide)]
  exact (stack_v76 (W22 m ρ c) r b h l).trans (bucket_w23 m ρ c r b h l)

/-- The round, the batch and the head that an array of the attention belongs to. -/
abbrev rd (g : Fin 128) : Fin 4 := ⟨g.1 / 32, by omega⟩
abbrev bt (g : Fin 128) : Fin 2 := ⟨g.1 / 16 % 2, by omega⟩
abbrev hh (g : Fin 128) : Fin 16 := ⟨g.1 % 16, by omega⟩

theorem attn_v91 (r : Fin 4) (b : Fin 2) (h : Fin 16) (l : Fin 8192) (d : Fin 64) :
    (W28 m ρ c (Proc.devRef .tc main_v91) : S128x8192x64.Idx → EReal) (ix3 (hd r b h) l d)
     = Spec.sortedRound (Rm m c r h) (Qm m c b h) (Um m c b h) l d := by
  refine (congrFun ((W28_arr m ρ c 4).trans (Region.arr1_4 (V27 m ρ) c _ _
    (fun g l => Spec.bkt (Rm m c (rd g) (hh g)) (Qm m c (bt g) (hh g)) (sm m c (rd g) (bt g) (hh g) l)) rfl rfl
    (fun g l => (heads_v89 (W26 m ρ c) g l).trans (rows_v76 m ρ c _ _ _ l))
    (fun g l => (heads_v90 (W26 m ρ c) g l).trans (rows_v76 m ρ c _ _ _ l)))) _).trans ?_
  have er : rd (hd r b h) = r := Fin.ext (by show (r.1 * 32 + b.1 * 16 + h.1) / 32 = r.1; omega)
  have eb : bt (hd r b h) = b := Fin.ext (by show (r.1 * 32 + b.1 * 16 + h.1) / 16 % 2 = b.1; omega)
  have eh : hh (hd r b h) = h := Fin.ext (by show (r.1 * 32 + b.1 * 16 + h.1) % 16 = h.1; omega)
  have e87 : ∀ l d, (V27 m ρ c main_v87 : S128x8192x64.Idx → EReal) (ix3 (hd r b h) l d) = Qm m c b h (sm m c r b h l) d := by
    intro l d
    refine (heads_v87 (W26 m ρ c) (hd r b h) l d).trans ((rows_v83 m ρ c (rd (hd r b h)) (bt (hd r b h)) (hh (hd r b h)) l d).trans ?_)
    rw [er, eb, eh]
  have e88 : ∀ l d, (V27 m ρ c main_v88 : S128x8192x64.Idx → EReal) (ix3 (hd r b h) l d) = Um m c b h (sm m c r b h l) d := by
    intro l d
    refine (heads_v88 (W26 m ρ c) (hd r b h) l d).trans ((rows_v86 m ρ c (rd (hd r b h)) (bt (hd r b h)) (hh (hd r b h)) l d).trans ?_)
    rw [er, eb, eh]
  have ebk : (fun l => Spec.bkt (Rm m c (rd (hd r b h)) (hh (hd r b h))) (Qm m c (bt (hd r b h)) (hh (hd r b h))) (sm m c (rd (hd r b h)) (bt (hd r b h)) (hh (hd r b h)) l))
      = fun l => Spec.bkt (Rm m c r h) (Qm m c b h) (sm m c r b h l) := by
    rw [er, eb, eh]
  unfold Region.attnArr Spec.sortedRound
  have e1 : (fun l d => (V27 m ρ c main_v87 : S128x8192x64.Idx → EReal) (ix3 (hd r b h) l d)) = fun l d => Qm m c b h (sm m c r b h l) d :=
    funext₂ e87
  have e2 : (fun l d => (V27 m ρ c main_v88 : S128x8192x64.Idx → EReal) (ix3 (hd r b h) l d)) = fun l d => Um m c b h (sm m c r b h l) d :=
    funext₂ e88
  have e3 : ∀ (B B' : Fin 8192 → BitVec 32) (X X' Y Y' : Fin 8192 → Fin 64 → EReal), B = B' → X = X' → Y = Y' → Spec.attn B X Y l d = Spec.attn B' X' Y' l d :=
    fun _ _ _ _ _ _ a b c => by rw [a, b, c]
  exact e3 _ _ _ _ _ _ ebk e1 e2

theorem back_v95 (r : Fin 4) (b : Fin 2) (h : Fin 16) (l : Fin 8192) (d : Fin 64) :
    (W32 m ρ c (Proc.devRef .tc main_v95) : S4x2x16x8192x64.Idx → EReal) (ix5 r b h l d)
     = Spec.round (Rm m c r h) (Qm m c b h) (Um m c b h) l d := by
  refine (take_v95 (W31 m ρ c) r b h l d (Spec.ord (fun p => BitVec.ofNat 32 (sm m c r b h p).1) l) ?_).trans ?_
  · refine (back_v94 (W30 m ρ c) r b h l).trans ((back_v93 (W29 m ρ c) r b h l).trans (congrArg (fun w => Spec.ordW w l) (funext fun p => ?_)))
    rw [W29_of m ρ c main_v71 (by decide), W28_of m ρ c main_v71 (by decide), W27_of m ρ c main_v71 (by decide), W26_of m ρ c main_v71 (by decide),
      W25_of m ρ c main_v71 (by decide), W24_of m ρ c main_v71 (by decide)]
    exact order_v71 m ρ c r b h p
  · rw [W31_of m ρ c main_v92 (by decide), W30_of m ρ c main_v92 (by decide)]
    exact (back_v92 (W28 m ρ c) r b h _ d).trans (attn_v91 m ρ c r b h _ d)

/-- The kernel's result. -/
theorem out_w35 (b : Fin 2) (l : Fin 8192) (j : Fin 1024) :
    (W35 m ρ c (Proc.devRef .tc main_v104) : S2x8192x1024.Idx → EReal) (ix3 b l j)
     = Layer.out (m ((c.tc : Thread nD τ).loc main_arg0)) (m ((c.tc : Thread nD τ).loc main_arg1)) (m ((c.tc : Thread nD τ).loc main_arg2))
       (m ((c.tc : Thread nD τ).loc main_arg3)) (m ((c.tc : Thread nD τ).loc main_arg4)) (m ((c.tc : Thread nD τ).loc main_arg5))
       (m ((c.tc : Thread nD τ).loc main_arg6)) (m ((c.tc : Thread nD τ).loc main_arg7)) b l j := by
  refine (out_v104 (W34 m ρ c) b l j).trans ((congrFun ((W34_arr m ρ c 3).trans (Region.arr2_3 (V33 m ρ) c)) _).trans ?_)
  unfold Region.rowsTimes Layer.out Spec.proj
  refine congrArg₂ (· + ·) (Finset.sum_congr rfl fun k _ => congrArg₂ (· * ·) ?_ ?_) ?_
  · refine (mean_v100 (W32 m ρ c) b l k).trans ?_
    unfold mean Spec.head
    refine congrArg₂ Ideal.div (Finset.sum_congr rfl fun r _ => ?_) rfl
    exact back_v95 m ρ c r b ⟨k.1 / 64, by omega⟩ l ⟨k.1 % 64, by omega⟩
  · exact (mat_v101 (W32 m ρ c) k j).trans (congrFun (W32_args m ρ c main_arg5 (by decide)) _)
  · exact (bias_v102 (W32 m ρ c) j).trans (congrFun (W32_args m ρ c main_arg6 (by decide)) _)

end Cert.Proof.Ker
-- ==== Proof.KerRun.lean ====
module

public import proofs.«01_k».proof.Proof.Gen.KernelIdeal.Frame

/-!
# The kernel's run with every buffer's last contents

The launch of the generated frame, read at every buffer instead of at the arguments alone.
-/

@[expose] public section
noncomputable section
set_option maxRecDepth 16384

namespace Cert.Proof.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
/-- The resources of the launch's logic. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends, and each buffer then holds what the last boundary of the launch says. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W35 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W35 m ρ c b)
    (hfin := fun c s' => by
      iintro ⟨⟨Hh, -⟩, HSI⟩
      unfold StableHlo.held
      imodintro
      iapply (pointsTo_read_all (Pipeline.ucRefs τ sig) (fun b => (((c : Thread nD τ)).1, b)) (W35 m ρ c) s')
      isplitl [Hh] <;> iassumption)
    (hQ := fun s h hz => h)

/-- What the kernel's result buffer and arguments hold at the end. -/
theorem run_result : θ_run defs (onTc (τ := τ) (main (F := F))) ⟨m, fun _ => 0, ρ⟩ (fun r => ∀ c : Dev nD,
      r.2.mem ((c.tc : Thread nD τ).loc main_v104) = W35 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v104 (by decide)),
     (h c _ (mem_uc main_arg0 (by decide))).trans (W35_main_arg0 m ρ c),
     (h c _ (mem_uc main_arg1 (by decide))).trans (W35_main_arg1 m ρ c),
     (h c _ (mem_uc main_arg2 (by decide))).trans (W35_main_arg2 m ρ c),
     (h c _ (mem_uc main_arg3 (by decide))).trans (W35_main_arg3 m ρ c),
     (h c _ (mem_uc main_arg4 (by decide))).trans (W35_main_arg4 m ρ c),
     (h c _ (mem_uc main_arg5 (by decide))).trans (W35_main_arg5 m ρ c),
     (h c _ (mem_uc main_arg6 (by decide))).trans (W35_main_arg6 m ρ c),
     (h c _ (mem_uc main_arg7 (by decide))).trans (W35_main_arg7 m ρ c)⟩) (run_all m ρ)

end Cert.Proof.Ker
-- ==== Proof.Real.lean ====
module

public import proofs.«01_k».proof.Defs
public import proofs.«01_k».proof.Proof.SpecLemmas

/-!
# The precondition

An entry above minus infinity and below infinity is a real number.
-/

@[expose] public section
noncomputable section

namespace Cert.Proof.Real

open Idealize.ShloMosaic

theorem facts : Cert.Pre_finite_projection.Facts := ⟨by decide, by decide, by decide⟩

theorem real_of_between (x : EReal) (h : IntOp.andi (Ideal.cmp .ogt x (Ideal.ofBits .f32 0xFF800000#32)) (Ideal.cmp .olt x (Ideal.ofBits .f32 0x7F800000#32)) = 1#1) :
    ∃ r : ℝ, x = (r : EReal) := by
  rw [Spec.neg_inf, Spec.pos_inf] at h
  induction x using EReal.rec with
  | bot => simp [Ideal.cmp, IntOp.andi] at h
  | top => simp [Ideal.cmp, IntOp.andi] at h
  | coe r => exact ⟨r, rfl⟩

/-- The first projection's rows, weights and biases are real. -/
theorem of_pre [Cert.Pre_finite_projection.Facts] (m : (ℓ : Loc Cert.KernelIdeal.nD Cert.KernelIdeal.τ Cert.KernelIdeal.sig) → Buf (Elt Ideal) ℓ)
    (h : Pre_KernelIdeal_finite_projection m) (c : Dev Cert.KernelIdeal.nD) :
    (∀ i, ∃ r : ℝ, (m ((c.tc : Thread Cert.KernelIdeal.nD Cert.KernelIdeal.τ).loc Cert.KernelIdeal.main_arg0) : Cert.KernelIdeal.S2x8192x1024.Idx → EReal) i = (r : EReal))
    ∧ (∀ i, ∃ r : ℝ, (m ((c.tc : Thread Cert.KernelIdeal.nD Cert.KernelIdeal.τ).loc Cert.KernelIdeal.main_arg1) : Cert.KernelIdeal.S1024x1024.Idx → EReal) i = (r : EReal))
    ∧ (∀ i, ∃ r : ℝ, (m ((c.tc : Thread Cert.KernelIdeal.nD Cert.KernelIdeal.τ).loc Cert.KernelIdeal.main_arg2) : Cert.KernelIdeal.S1024.Idx → EReal) i = (r : EReal)) :=
  ⟨fun i => real_of_between _ (congrFun (h c).1 i), fun i => real_of_between _ (congrFun (h c).2.1 i), fun i => real_of_between _ (congrFun (h c).2.2 i)⟩

end Cert.Proof.Real
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.RefVal
public import proofs.«01_k».proof.Proof.KerVal
public import proofs.«01_k».proof.Proof.KerRun
public import proofs.«01_k».proof.Proof.Real
public import Idealize.ShloMosaic.Adequacy
public import Idealize.ShloMosaic.Init

/-!
# The certificate

The frames of the three programs, the idealization's one named constant, and the equation: over the
extended reals the kernel and the reference return the same layer, `Layer.out` of the eight arrays,
where the rows of the shared projection are real.
-/

@[expose] public section

set_option maxRecDepth 16384

noncomputable section

namespace Cert.Proof

open Idealize.ShloMosaic Idealize.ShloMosaic.TcCoe Idealize.ShloMosaic.StableHlo Idealize.ShloMosaic.Tactic Idealize.SL.Sem

/-- The reference ends with its arguments unchanged and every counter at zero. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
        ∧ r.2.sem = fun _ => 0) :=
  (θ_run Cert.ReferenceIdeal.defs _ _).mono (fun r h => ⟨fun c => (h c).2, sem_eq_zero_of_no_sems (by decide) r.2⟩) (Ref.run_main m g)

/-- Kernel and reference return the same layer. -/
theorem same_result [Cert.Pre_finite_projection.Facts] : letI := Cert.KernelIdeal.Gen.facts; letI := Cert.ReferenceIdeal.Gen.facts
    Cert.algebraic_KernelIdeal_ReferenceIdeal_pre_finite_projection := by
  intro m g m' g' hp hm
  have hr : ∀ c : Dev Cert.KernelIdeal.nD, after (Ref.partOps0 ++ Ref.partOps1) (launchContents m' c) (Proc.devRef .tc Cert.ReferenceIdeal.main_v92)
      = Cert.KernelIdeal.Gen.W35 m g c (Proc.devRef .tc Cert.KernelIdeal.main_v104) := by
    intro c
    obtain ⟨e0, e1, e2, e3, e4, e5, e6, e7⟩ := hm c
    obtain ⟨h0, h1, h2⟩ := Real.of_pre m hp c
    have hq : ∀ b h l d, ∃ r : ℝ, Ref.Qv (launchContents m' c) b h l d = (r : EReal) := fun b h l d =>
      Layer.heads_real _ _ _ (fun i => by rw [← e0] at h0; exact h0 i) (fun i => by rw [← e1] at h1; exact h1 i) (fun i => by rw [← e2] at h2; exact h2 i) b h l d
    choose q hq using hq
    funext i
    obtain ⟨b, l, j, rfl⟩ : ∃ (b : Fin 2) (l : Fin 8192) (j : Fin 1024), i = ix3 b l j := by
      idx_vars i
      exact ⟨_, _, _, rfl⟩
    refine (Ref.out_v92 (launchContents m' c) q hq b l j).trans (Eq.trans ?_ (Ker.out_w35 m g c b l j).symm)
    rw [← e0, ← e1, ← e2, ← e3, ← e4, ← e5, ← e6, ← e7]
  refine ⟨fun c => Cert.KernelIdeal.Gen.W35 m g c (Proc.devRef .tc Cert.KernelIdeal.main_v104), Ker.run_result m g, ?_⟩
  exact (θ_run Cert.ReferenceIdeal.defs _ _).mono (fun r h c => ⟨(h c).1.trans (hr c), (h c).2⟩) (Ref.run_main m' g')

theorem claim : Cert.Claim := ⟨Cert.Kernel.Gen.facts, Cert.KernelIdeal.Gen.facts, Cert.ReferenceIdeal.Gen.facts, Real.facts,
  fun m g _ => Cert.Kernel.Gen.frame m g, fun m g _ => Cert.KernelIdeal.Gen.frame m g, fun m g _ => Cert.KernelIdeal.Gen.frame m g,
  fun m g _ => reference_quiescent m g, fun m g _ => reference_quiescent m g,
  IdealRules.named_const.statement Cert.KernelIdeal.κ "mask" .f32 0xF149F2CA#32 ⊥ rfl,
  letI := Real.facts; same_result⟩

end Cert.Proof

end
